-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x2048x7168 : Shape := ⟨3, ![3, 2048, 7168]⟩
abbrev S7168x1152 : Shape := ⟨2, ![7168, 1152]⟩
abbrev S56x9 : Shape := ⟨2, ![56, 9]⟩
abbrev S1152 : Shape := ⟨1, ![1152]⟩
abbrev S3x2048x56x128 : Shape := ⟨4, ![3, 2048, 56, 128]⟩
abbrev S_ : Shape := ⟨0, ![]⟩
abbrev S3x2048x56 : Shape := ⟨3, ![3, 2048, 56]⟩

class Facts : Prop where
  bitsLt_bf16_f32 : FTy.bits .bf16 < FTy.bits .f32
  shapeCasts_S3x2048x7168_S3x2048x56x128 : S3x2048x7168.ShapeCasts S3x2048x56x128
  reducesTo_S3x2048x56x128_S3x2048x56_d3 : S3x2048x56x128.ReducesTo [3] S3x2048x56
  h_S_ : 0 < S_.numel
  bcast_S_S3x2048x56 : S_.BroadcastsInDim S3x2048x56 (![] : Fin 0 → Fin S3x2048x56.rank)

variable [Facts]

def fn {F : FTy → Type} [FloatOps F] (main_arg0 : FVec F S3x2048x7168 .bf16) (main_arg1 : FVec F S7168x1152 .fp8e4m3) (main_arg2 : FVec F S56x9 .f32) (main_arg3 : FVec F S1152 .f32) : IVec S3x2048x56 1 :=
  let main_v0 : FVec F S3x2048x7168 .f32 := (extf .f32 · bitsLt_bf16_f32) main_arg0
  let main_v1 : FVec F S3x2048x7168 .f32 := Host.absf main_v0
  let main_v2 : FVec F S3x2048x56x128 .f32 := shapeCast S3x2048x56x128 main_v1 shapeCasts_S3x2048x7168_S3x2048x56x128
  let main_cst : FVec F S_ .f32 := constant S_ .f32 0xFF800000#32
  let main_v3 : FVec F S3x2048x56 .f32 := (fun x v => Host.reduce FloatOps.maximumf x v reducesTo_S3x2048x56x128_S3x2048x56_d3 h_S_) main_v2 main_cst
  let main_cst_0 : FVec F S_ .f32 := constant S_ .f32 0x00000000#32
  let main_v4 : FVec F S3x2048x56 .f32 := broadcastInDim S3x2048x56 ![] bcast_S_S3x2048x56 main_cst_0
  let main_v5 : IVec S3x2048x56 1 := cmpf .oeq main_v3 main_v4
  let main_cst_1 : FVec F S_ .f32 := constant S_ .f32 0x04E00000#32
  let main_v6 : FVec F S3x2048x56 .f32 := broadcastInDim S3x2048x56 ![] bcast_S_S3x2048x56 main_cst_1
  let main_v7 : IVec S3x2048x56 1 := cmpf .oge main_v3 main_v6
  let main_cst_2 : FVec F S_ .f32 := constant S_ .f32 0x7F7F0000#32
  let main_v8 : FVec F S3x2048x56 .f32 := broadcastInDim S3x2048x56 ![] bcast_S_S3x2048x56 main_cst_2
  let main_v9 : IVec S3x2048x56 1 := cmpf .ole main_v3 main_v8
  let main_v10 : IVec S3x2048x56 1 := andi main_v7 main_v9
  let main_v11 : IVec S3x2048x56 1 := ori main_v5 main_v10
  main_v11
-- ==== Kernel.lean ====
abbrev S3x2048x7168 : Shape := ⟨3, ![3, 2048, 7168]⟩
abbrev S7168x1152 : Shape := ⟨2, ![7168, 1152]⟩
abbrev S56x9 : Shape := ⟨2, ![56, 9]⟩
abbrev S1152 : Shape := ⟨1, ![1152]⟩
abbrev S56x9x128 : Shape := ⟨3, ![56, 9, 128]⟩
abbrev S56x1152 : Shape := ⟨2, ![56, 1152]⟩
abbrev S6144x7168 : Shape := ⟨2, ![6144, 7168]⟩
abbrev S1x1152 : Shape := ⟨2, ![1, 1152]⟩
abbrev S6144x1152 : Shape := ⟨2, ![6144, 1152]⟩
abbrev S6144x56 : Shape := ⟨2, ![6144, 56]⟩
abbrev S256x7168 : Shape := ⟨2, ![256, 7168]⟩
abbrev S256x1152 : Shape := ⟨2, ![256, 1152]⟩
abbrev S256x56 : Shape := ⟨2, ![256, 56]⟩
abbrev S256x128 : Shape := ⟨2, ![256, 128]⟩
abbrev S256 : Shape := ⟨1, ![256]⟩
abbrev S256x1 : Shape := ⟨2, ![256, 1]⟩
abbrev S128x1152 : Shape := ⟨2, ![128, 1152]⟩

abbrev nBuf : Space → Nat
  | .hbm => 11
  | .vmem => 11
  | .smem => 0
  | _ => 0

abbrev bufTy : (tb : Table) → Fin (tcTables nBuf tb) → BufTy
  | .hbm, ⟨0, _⟩ => ⟨S3x2048x7168, .bf16⟩
  | .hbm, ⟨1, _⟩ => ⟨S7168x1152, .fp8e4m3⟩
  | .hbm, ⟨2, _⟩ => ⟨S56x9, .f32⟩
  | .hbm, ⟨3, _⟩ => ⟨S1152, .f32⟩
  | .hbm, ⟨4, _⟩ => ⟨S56x9x128, .f32⟩
  | .hbm, ⟨5, _⟩ => ⟨S56x1152, .f32⟩
  | .hbm, ⟨6, _⟩ => ⟨S6144x7168, .bf16⟩
  | .hbm, ⟨7, _⟩ => ⟨S1x1152, .f32⟩
  | .hbm, ⟨8, _⟩ => ⟨S6144x1152, .bf16⟩
  | .hbm, ⟨9, _⟩ => ⟨S6144x7168, .fp8e4m3⟩
  | .hbm, ⟨10, _⟩ => ⟨S6144x56, .f32⟩
  | .local _ .vmem, ⟨0, _⟩ => ⟨S256x7168, .bf16⟩
  | .local _ .vmem, ⟨1, _⟩ => ⟨S256x7168, .bf16⟩
  | .local _ .vmem, ⟨2, _⟩ => ⟨S7168x1152, .fp8e4m3⟩
  | .local _ .vmem, ⟨3, _⟩ => ⟨S56x1152, .f32⟩
  | .local _ .vmem, ⟨4, _⟩ => ⟨S1x1152, .f32⟩
  | .local _ .vmem, ⟨5, _⟩ => ⟨S256x1152, .bf16⟩
  | .local _ .vmem, ⟨6, _⟩ => ⟨S256x1152, .bf16⟩
  | .local _ .vmem, ⟨7, _⟩ => ⟨S256x7168, .fp8e4m3⟩
  | .local _ .vmem, ⟨8, _⟩ => ⟨S256x7168, .fp8e4m3⟩
  | .local _ .vmem, ⟨9, _⟩ => ⟨S256x56, .f32⟩
  | .local _ .vmem, ⟨10, _⟩ => ⟨S256x56, .f32⟩
  | _, _ => ⟨S3x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x2048x7168 : Shape := ⟨3, ![3, 2048, 7168]⟩
abbrev S7168x1152 : Shape := ⟨2, ![7168, 1152]⟩
abbrev S56x9 : Shape := ⟨2, ![56, 9]⟩
abbrev S1152 : Shape := ⟨1, ![1152]⟩
abbrev S6144x7168 : Shape := ⟨2, ![6144, 7168]⟩
abbrev S56x9x128 : Shape := ⟨3, ![56, 9, 128]⟩
abbrev S56x1152 : Shape := ⟨2, ![56, 1152]⟩
abbrev S1x1152 : Shape := ⟨2, ![1, 1152]⟩
abbrev S6144x1152 : Shape := ⟨2, ![6144, 1152]⟩
abbrev S6144x56 : Shape := ⟨2, ![6144, 56]⟩
abbrev S6144x56x128 : Shape := ⟨3, ![6144, 56, 128]⟩
abbrev S6144x56x1 : Shape := ⟨3, ![6144, 56, 1]⟩
abbrev S56x128x1152 : Shape := ⟨3, ![56, 128, 1152]⟩
abbrev S56x6144x1152 : Shape := ⟨3, ![56, 6144, 1152]⟩
abbrev S56x6144 : Shape := ⟨2, ![56, 6144]⟩
abbrev S56x6144x1 : Shape := ⟨3, ![56, 6144, 1]⟩
abbrev S56x1x1152 : Shape := ⟨3, ![56, 1, 1152]⟩

abbrev nBuf : Space → Nat
  | .hbm => 11
  | .vmem => 7
  | .smem => 0
  | _ => 0

abbrev bufTy : (tb : Table) → Fin (tcTables nBuf tb) → BufTy
  | .hbm, ⟨0, _⟩ => ⟨S3x2048x7168, .bf16⟩
  | .hbm, ⟨1, _⟩ => ⟨S7168x1152, .fp8e4m3⟩
  | .hbm, ⟨2, _⟩ => ⟨S56x9, .f32⟩
  | .hbm, ⟨3, _⟩ => ⟨S1152, .f32⟩
  | .hbm, ⟨4, _⟩ => ⟨S6144x7168, .bf16⟩
  | .hbm, ⟨5, _⟩ => ⟨S56x9x128, .f32⟩
  | .hbm, ⟨6, _⟩ => ⟨S56x1152, .f32⟩
  | .hbm, ⟨7, _⟩ => ⟨S1x1152, .f32⟩
  | .hbm, ⟨8, _⟩ => ⟨S6144x1152, .bf16⟩
  | .hbm, ⟨9, _⟩ => ⟨S6144x7168, .fp8e4m3⟩
  | .hbm, ⟨10, _⟩ => ⟨S6144x56, .f32⟩
  | .local _ .vmem, ⟨0, _⟩ => ⟨S6144x7168, .bf16⟩
  | .local _ .vmem, ⟨1, _⟩ => ⟨S7168x1152, .fp8e4m3⟩
  | .local _ .vmem, ⟨2, _⟩ => ⟨S56x1152, .f32⟩
  | .local _ .vmem, ⟨3, _⟩ => ⟨S1x1152, .f32⟩
  | .local _ .vmem, ⟨4, _⟩ => ⟨S6144x1152, .bf16⟩
  | .local _ .vmem, ⟨5, _⟩ => ⟨S6144x7168, .fp8e4m3⟩
  | .local _ .vmem, ⟨6, _⟩ => ⟨S6144x56, .f32⟩
  | _, _ => ⟨S3x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RefRun.lean ====
/- The reference's run, with its three arrays after it named and the arguments unchanged. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem post4 (r : PUnit × MemSt nD τ sig (Elt F)) (h : Pipeline.FramePost cfgs (dats m) 0 (V m) r) (c : Dev nD) :
    r.2.mem ((c : Thread nD τ).loc main_v4_0) = (dats m 0 c).arrAt 4 cfg0.N := (h c).1 4

theorem post5 (r : PUnit × MemSt nD τ sig (Elt F)) (h : Pipeline.FramePost cfgs (dats m) 0 (V m) r) (c : Dev nD) :
    r.2.mem ((c : Thread nD τ).loc main_v4_1) = (dats m 0 c).arrAt 5 cfg0.N := (h c).1 5

theorem post6 (r : PUnit × MemSt nD τ sig (Elt F)) (h : Pipeline.FramePost cfgs (dats m) 0 (V m) r) (c : Dev nD) :
    r.2.mem ((c : Thread nD τ).loc main_v4_2) = (dats m 0 c).arrAt 6 cfg0.N := (h c).1 6

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Every run ends with the three arrays as the region's proof data say, and the arguments as they were. -/
theorem run_blocks : θ_run defs (onTc (τ := τ) (main (F := F))) ⟨m, fun _ => 0, ρ⟩ fun r => ∀ c : Dev nD,
    r.2.mem ((c : Thread nD τ).loc main_v4_0) = (dats m 0 c).arrAt 4 cfg0.N
    ∧ r.2.mem ((c : Thread nD τ).loc main_v4_1) = (dats m 0 c).arrAt 5 cfg0.N
    ∧ r.2.mem ((c : Thread nD τ).loc main_v4_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨post4 m r h c, post5 m r h c, post6 m r h c, kept0 m r h c, kept1 m r h c,
    kept2 m r h c, kept3 m r h c⟩) (run_main m ρ)

end Cert.ReferenceIdeal.Hand

end
-- ==== Proof.Group.lean ====
/- What the kernel's body does with ONE group of 128 columns, as three functions of the group's block of `x`:
   its scale (a column of 256), its fp8 codes, and the accumulator's update. The body prints the 56 groups one after
   another; the modules `Codes`, `Scales` and `Steps` show that each of the printed groups is these functions. -/
module

public import proofs.«01_k».proof.Proof.Gen.KernelIdeal.Value

@[expose] public section

noncomputable section

namespace Cert.KernelIdeal.Hand

open Cert.KernelIdeal Cert.KernelIdeal.Gen Idealize.ShloMosaic Idealize.SL.Sem

variable {F : FTy → Type} [FloatOps F]

/-- The column of scales of one group. -/
def grpScale (v : Vec F S256x128 .bf16) : FVec F S256x1 .f32 :=
  k0_pay9 (k0_pay4 v) (k0_pay5 v) (k0_pay6 v) 8388608#32

/-- The fp8 codes of one group. -/
def grpCodes (v : Vec F S256x128 .bf16) : FVec F S256x128 .fp8e4m3 :=
  k0_pay10 (k0_pay3 v) (k0_pay4 v) (k0_pay5 v) (k0_pay6 v) 8388608#32

/-- The accumulator after one group: the codes times the group's weights, scaled by both scales, added. -/
def grpStep (acc : FVec F S256x1152 .f32) (v : Vec F S256x128 .bf16) (w : Vec F S128x1152 .fp8e4m3)
    (sw : Vec F S1x1152 .f32) : FVec F S256x1152 .f32 :=
  k0_pay11 acc (k0_pay3 v) (k0_pay4 v) (k0_pay5 v) (k0_pay6 v) 8388608#32 w sw

end Cert.KernelIdeal.Hand

end
-- ==== Proof.Scales.lean ====
/- The 56 columns of scales: each printed column is `grpScale` of the group's block of `x`, so the block of scales is their concatenation. -/
module

public import proofs.«01_k».proof.Proof.Group

@[expose] public section

noncomputable section

namespace Cert.KernelIdeal.Hand

open Cert.KernelIdeal Cert.KernelIdeal.Gen Idealize.ShloMosaic Idealize.SL.Sem

variable {F : FTy → Type} [FloatOps F]
variable (x0 : Vec F S256x7168 .bf16) (x1 : Vec F S7168x1152 .fp8e4m3) (x2 : Vec F S56x1152 .f32) (x3 : Vec F S1x1152 .f32)

theorem scale_0 : (k0_pay9 (k0_pay575 x0 x1 x2 x3) (k0_pay576 x0 x1 x2 x3) (k0_pay577 x0 x1 x2 x3) 8388608#32) = grpScale (View.ld x0 r0_0) := rfl
theorem scale_1 : (k0_pay19 (k0_pay579 x0 x1 x2 x3) (k0_pay581 x0 x1 x2 x3) (Scalar.ofBits .f32 0x00000000#32)) = grpScale (View.ld x0 r0_3) := rfl
theorem scale_2 : (k0_pay588 x0 x1 x2 x3) = grpScale (View.ld x0 r0_6) := rfl
theorem scale_3 : (k0_pay40 (k0_pay591 x0 x1 x2 x3) (k0_pay592 x0 x1 x2 x3) (k0_pay593 x0 x1 x2 x3) 67108864#32) = grpScale (View.ld x0 r0_9) := rfl
theorem scale_4 : (k0_pay51 (k0_pay595 x0 x1 x2 x3) (k0_pay596 x0 x1 x2 x3) (k0_pay597 x0 x1 x2 x3) (k0_pay598 x0 x1 x2 x3)) = grpScale (View.ld x0 r0_12) := rfl
theorem scale_5 : (k0_pay60 (k0_pay601 x0 x1 x2 x3) (k0_pay603 x0 x1 x2 x3)) = grpScale (View.ld x0 r0_15) := rfl
theorem scale_6 : (k0_pay607 x0 x1 x2 x3) = grpScale (View.ld x0 r0_18) := rfl
theorem scale_7 : (k0_pay614 x0 x1 x2 x3) = grpScale (View.ld x0 r0_21) := rfl
theorem scale_8 : (k0_pay91 (k0_pay616 x0 x1 x2 x3) (k0_pay617 x0 x1 x2 x3) (k0_pay618 x0 x1 x2 x3) (k0_pay619 x0 x1 x2 x3) (k0_pay620 x0 x1 x2 x3)) = grpScale (View.ld x0 r0_24) := rfl
theorem scale_9 : (k0_pay98 (k0_pay622 x0 x1 x2 x3) (k0_pay623 x0 x1 x2 x3) 8388608#32) = grpScale (View.ld x0 r0_27) := rfl
theorem scale_10 : (k0_pay631 x0 x1 x2 x3) = grpScale (View.ld x0 r0_30) := rfl
theorem scale_11 : (k0_pay637 x0 x1 x2 x3) = grpScale (View.ld x0 r0_33) := rfl
theorem scale_12 : (k0_pay129 (k0_pay640 x0 x1 x2 x3) (k0_pay641 x0 x1 x2 x3) (k0_pay642 x0 x1 x2 x3) 33554432#32) = grpScale (View.ld x0 r0_36) := rfl
theorem scale_13 : (k0_pay140 (k0_pay644 x0 x1 x2 x3) (k0_pay645 x0 x1 x2 x3) (k0_pay646 x0 x1 x2 x3) (k0_pay647 x0 x1 x2 x3)) = grpScale (View.ld x0 r0_39) := rfl
theorem scale_14 : (k0_pay150 (k0_pay650 x0 x1 x2 x3) (k0_pay652 x0 x1 x2 x3)) = grpScale (View.ld x0 r0_42) := rfl
theorem scale_15 : (k0_pay656 x0 x1 x2 x3) = grpScale (View.ld x0 r0_45) := rfl
theorem scale_16 : (k0_pay170 (k0_pay659 x0 x1 x2 x3) (k0_pay660 x0 x1 x2 x3) (k0_pay661 x0 x1 x2 x3) (k0_pay662 x0 x1 x2 x3)) = grpScale (View.ld x0 r0_48) := rfl
theorem scale_17 : (k0_pay182 (k0_pay664 x0 x1 x2 x3) (k0_pay665 x0 x1 x2 x3) (k0_pay666 x0 x1 x2 x3) (k0_pay667 x0 x1 x2 x3) (k0_pay668 x0 x1 x2 x3)) = grpScale (View.ld x0 r0_51) := rfl
theorem scale_18 : (k0_pay191 (k0_pay670 x0 x1 x2 x3) (k0_pay671 x0 x1 x2 x3)) = grpScale (View.ld x0 r0_54) := rfl
theorem scale_19 : (k0_pay677 x0 x1 x2 x3) = grpScale (View.ld x0 r0_57) := rfl
theorem scale_20 : (k0_pay685 x0 x1 x2 x3) = grpScale (View.ld x0 r0_60) := rfl
theorem scale_21 : (k0_pay223 (k0_pay687 x0 x1 x2 x3) (k0_pay688 x0 x1 x2 x3) (k0_pay689 x0 x1 x2 x3) 16777216#32) = grpScale (View.ld x0 r0_63) := rfl
theorem scale_22 : (k0_pay231 (k0_pay691 x0 x1 x2 x3) (k0_pay693 x0 x1 x2 x3)) = grpScale (View.ld x0 r0_66) := rfl
theorem scale_23 : (k0_pay700 x0 x1 x2 x3) = grpScale (View.ld x0 r0_69) := rfl
theorem scale_24 : (k0_pay706 x0 x1 x2 x3) = grpScale (View.ld x0 r0_72) := rfl
theorem scale_25 : (k0_pay262 (k0_pay708 x0 x1 x2 x3) (k0_pay709 x0 x1 x2 x3) (k0_pay710 x0 x1 x2 x3) (k0_pay711 x0 x1 x2 x3)) = grpScale (View.ld x0 r0_75) := rfl
theorem scale_26 : (k0_pay273 (k0_pay713 x0 x1 x2 x3) (k0_pay714 x0 x1 x2 x3) (k0_pay715 x0 x1 x2 x3) (k0_pay716 x0 x1 x2 x3)) = grpScale (View.ld x0 r0_78) := rfl
theorem scale_27 : (k0_pay285 (k0_pay720 x0 x1 x2 x3) (k0_pay722 x0 x1 x2 x3) (k0_pay723 x0 x1 x2 x3)) = grpScale (View.ld x0 r0_81) := rfl
theorem scale_28 : (k0_pay728 x0 x1 x2 x3) = grpScale (View.ld x0 r0_84) := rfl
theorem scale_29 : (k0_pay306 (k0_pay731 x0 x1 x2 x3) (k0_pay732 x0 x1 x2 x3) (k0_pay733 x0 x1 x2 x3) (k0_pay734 x0 x1 x2 x3) (k0_pay735 x0 x1 x2 x3)) = grpScale (View.ld x0 r0_87) := rfl
theorem scale_30 : (k0_pay317 (k0_pay737 x0 x1 x2 x3) (k0_pay738 x0 x1 x2 x3) (k0_pay739 x0 x1 x2 x3) 8388608#32) = grpScale (View.ld x0 r0_90) := rfl
theorem scale_31 : (k0_pay327 (k0_pay741 x0 x1 x2 x3) (k0_pay743 x0 x1 x2 x3) (Scalar.ofBits .f32 0x00000000#32)) = grpScale (View.ld x0 r0_93) := rfl
theorem scale_32 : (k0_pay750 x0 x1 x2 x3) = grpScale (View.ld x0 r0_96) := rfl
theorem scale_33 : (k0_pay348 (k0_pay753 x0 x1 x2 x3) (k0_pay754 x0 x1 x2 x3) (k0_pay755 x0 x1 x2 x3) 67108864#32) = grpScale (View.ld x0 r0_99) := rfl
theorem scale_34 : (k0_pay359 (k0_pay757 x0 x1 x2 x3) (k0_pay758 x0 x1 x2 x3) (k0_pay759 x0 x1 x2 x3) (k0_pay760 x0 x1 x2 x3)) = grpScale (View.ld x0 r0_102) := rfl
theorem scale_35 : (k0_pay368 (k0_pay763 x0 x1 x2 x3) (k0_pay765 x0 x1 x2 x3)) = grpScale (View.ld x0 r0_105) := rfl
theorem scale_36 : (k0_pay769 x0 x1 x2 x3) = grpScale (View.ld x0 r0_108) := rfl
theorem scale_37 : (k0_pay776 x0 x1 x2 x3) = grpScale (View.ld x0 r0_111) := rfl
theorem scale_38 : (k0_pay399 (k0_pay778 x0 x1 x2 x3) (k0_pay779 x0 x1 x2 x3) (k0_pay780 x0 x1 x2 x3) (k0_pay781 x0 x1 x2 x3) (k0_pay782 x0 x1 x2 x3)) = grpScale (View.ld x0 r0_114) := rfl
theorem scale_39 : (k0_pay406 (k0_pay784 x0 x1 x2 x3) (k0_pay785 x0 x1 x2 x3) 8388608#32) = grpScale (View.ld x0 r0_117) := rfl
theorem scale_40 : (k0_pay793 x0 x1 x2 x3) = grpScale (View.ld x0 r0_120) := rfl
theorem scale_41 : (k0_pay799 x0 x1 x2 x3) = grpScale (View.ld x0 r0_123) := rfl
theorem scale_42 : (k0_pay437 (k0_pay802 x0 x1 x2 x3) (k0_pay803 x0 x1 x2 x3) (k0_pay804 x0 x1 x2 x3) 33554432#32) = grpScale (View.ld x0 r0_126) := rfl
theorem scale_43 : (k0_pay448 (k0_pay806 x0 x1 x2 x3) (k0_pay807 x0 x1 x2 x3) (k0_pay808 x0 x1 x2 x3) (k0_pay809 x0 x1 x2 x3)) = grpScale (View.ld x0 r0_129) := rfl
theorem scale_44 : (k0_pay458 (k0_pay812 x0 x1 x2 x3) (k0_pay814 x0 x1 x2 x3)) = grpScale (View.ld x0 r0_132) := rfl
theorem scale_45 : (k0_pay818 x0 x1 x2 x3) = grpScale (View.ld x0 r0_135) := rfl
theorem scale_46 : (k0_pay478 (k0_pay821 x0 x1 x2 x3) (k0_pay822 x0 x1 x2 x3) (k0_pay823 x0 x1 x2 x3) (k0_pay824 x0 x1 x2 x3)) = grpScale (View.ld x0 r0_138) := rfl
theorem scale_47 : (k0_pay490 (k0_pay826 x0 x1 x2 x3) (k0_pay827 x0 x1 x2 x3) (k0_pay828 x0 x1 x2 x3) (k0_pay829 x0 x1 x2 x3) (k0_pay830 x0 x1 x2 x3)) = grpScale (View.ld x0 r0_141) := rfl
theorem scale_48 : (k0_pay499 (k0_pay832 x0 x1 x2 x3) (k0_pay833 x0 x1 x2 x3)) = grpScale (View.ld x0 r0_144) := rfl
theorem scale_49 : (k0_pay839 x0 x1 x2 x3) = grpScale (View.ld x0 r0_147) := rfl
theorem scale_50 : (k0_pay847 x0 x1 x2 x3) = grpScale (View.ld x0 r0_150) := rfl
theorem scale_51 : (k0_pay531 (k0_pay849 x0 x1 x2 x3) (k0_pay850 x0 x1 x2 x3) (k0_pay851 x0 x1 x2 x3) 16777216#32) = grpScale (View.ld x0 r0_153) := rfl
theorem scale_52 : (k0_pay539 (k0_pay853 x0 x1 x2 x3) (k0_pay855 x0 x1 x2 x3)) = grpScale (View.ld x0 r0_156) := rfl
theorem scale_53 : (k0_pay862 x0 x1 x2 x3) = grpScale (View.ld x0 r0_159) := rfl
theorem scale_54 : (k0_pay868 x0 x1 x2 x3) = grpScale (View.ld x0 r0_162) := rfl

/-- The block of `x` that group `g` reads. -/
abbrev rx (g : Fin 56) : Rect S256x7168 :=
  Rect.unit (s := S256x7168) ![0, 128 * g.val] S256x128.size (by
    intro a; have := g.isLt; fin_cases a <;> simp [S256x128, S256x7168] <;> omega)

theorem concats : Shape.Concatenates ((List.ofFn fun g : Fin 56 => (⟨S256x1, grpScale (View.ld x0 (rx g))⟩ : (s : Shape) × (s.Idx → F .f32))).map (·.1)) S256x56 1 := by
  rw [List.map_ofFn]
  exact (by decide : Shape.Concatenates (List.ofFn fun _ : Fin 56 => S256x1) S256x56 1)

/-- The scales' buffer after the body. -/
theorem out6_eq : out0_6 x0 x1 x2 x3 = View.canon [⟨r0_168, concatenate S256x56 1
    (List.ofFn fun g : Fin 56 => ⟨S256x1, grpScale (View.ld x0 (rx g))⟩) (concats x0)⟩] := by
  unfold out0_6
  rw [scale_0 x0 x1 x2 x3, scale_1 x0 x1 x2 x3, scale_2 x0 x1 x2 x3, scale_3 x0 x1 x2 x3, scale_4 x0 x1 x2 x3, scale_5 x0 x1 x2 x3, scale_6 x0 x1 x2 x3, scale_7 x0 x1 x2 x3, scale_8 x0 x1 x2 x3, scale_9 x0 x1 x2 x3, scale_10 x0 x1 x2 x3, scale_11 x0 x1 x2 x3, scale_12 x0 x1 x2 x3, scale_13 x0 x1 x2 x3, scale_14 x0 x1 x2 x3, scale_15 x0 x1 x2 x3, scale_16 x0 x1 x2 x3, scale_17 x0 x1 x2 x3, scale_18 x0 x1 x2 x3, scale_19 x0 x1 x2 x3, scale_20 x0 x1 x2 x3, scale_21 x0 x1 x2 x3, scale_22 x0 x1 x2 x3, scale_23 x0 x1 x2 x3, scale_24 x0 x1 x2 x3, scale_25 x0 x1 x2 x3, scale_26 x0 x1 x2 x3, scale_27 x0 x1 x2 x3, scale_28 x0 x1 x2 x3, scale_29 x0 x1 x2 x3, scale_30 x0 x1 x2 x3, scale_31 x0 x1 x2 x3, scale_32 x0 x1 x2 x3, scale_33 x0 x1 x2 x3, scale_34 x0 x1 x2 x3, scale_35 x0 x1 x2 x3, scale_36 x0 x1 x2 x3, scale_37 x0 x1 x2 x3, scale_38 x0 x1 x2 x3, scale_39 x0 x1 x2 x3, scale_40 x0 x1 x2 x3, scale_41 x0 x1 x2 x3, scale_42 x0 x1 x2 x3, scale_43 x0 x1 x2 x3, scale_44 x0 x1 x2 x3, scale_45 x0 x1 x2 x3, scale_46 x0 x1 x2 x3, scale_47 x0 x1 x2 x3, scale_48 x0 x1 x2 x3, scale_49 x0 x1 x2 x3, scale_50 x0 x1 x2 x3, scale_51 x0 x1 x2 x3, scale_52 x0 x1 x2 x3, scale_53 x0 x1 x2 x3, scale_54 x0 x1 x2 x3]
  rfl

end Cert.KernelIdeal.Hand

end
-- ==== Proof.Scalar.lean ====
/- The scale of one group as a function of the group's largest magnitude `a`, over the extended reals.
   The kernel finds the exponent field of `p = a / 448` bit by bit: it raises a bit of the field wherever the float with the
   raised field is still at most `p`. The reference takes the floor of the logarithm. `kscale_eq` and `kinv_eq` say that
   the two agree where `a` is 0, or lies between 448 times the smallest normal f32 and the largest finite bf16. -/
module

public import Idealize.ShloMosaic.PureOps.Ideal
public import Idealize.ShloMosaic.PureOps.Ideal.Laws

@[expose] public section

noncomputable section

namespace Cert.Hand

open Idealize.ShloMosaic

/-- The f32 nearest to 1/448. -/
def recip448 : EReal := Ideal.ofBits .f32 991054117#32

/-- One step of the search: the bits `w` are raised where the float with them raised is at most `p`. -/
def kstep (p : EReal) (w f : BitVec 32) : BitVec 32 :=
  if Ideal.ofBits .f32 (IntOp.ori f w) ≤ p then IntOp.ori f w else f

/-- The first seven steps of the search, highest bit first. -/
def kfield7 (p : EReal) : BitVec 32 :=
  kstep p 16777216#32 (kstep p 33554432#32 (kstep p 67108864#32 (kstep p 134217728#32
    (kstep p 268435456#32 (kstep p 536870912#32 (kstep p 1073741824#32 0#32))))))

/-- The exponent field of `p`, in place. -/
def kfield (p : EReal) : BitVec 32 := kstep p 8388608#32 (kfield7 p)

/-- The kernel's scale. -/
def kscale (a : EReal) : EReal :=
  if a = 0 then 1 else Ideal.ofBits .f32 (IntOp.addi (kfield (a * recip448)) 8388608#32)

/-- The kernel's inverse scale. -/
def kinv (a : EReal) : EReal :=
  if a = 0 then 1 else Ideal.ofBits .f32 (IntOp.subi 2122317824#32 (kfield (a * recip448)))

/-- The reference's exponent: the floor of the binary logarithm plus one; 0 for a group of zeros. -/
def rexp (a : EReal) : EReal :=
  if a = 0 then 0 else
    Ideal.liftRound Int.floor (Ideal.div (Ideal.log (a * recip448)) (Ideal.log (Ideal.ofBits .f32 1073741824#32))) + 1

/-- The reference's scale. -/
def rscale (a : EReal) : EReal := Ideal.exp2 (rexp a)

/-- The reference's inverse scale. -/
def rinv (a : EReal) : EReal := Ideal.exp2 (0 - rexp a)

/-! ## The float with exponent field `n` and no fraction -/

/-- The float whose exponent field is `n`. -/
def T (n : ℕ) : EReal := Ideal.ofBits .f32 (BitVec.ofNat 32 (n * 2 ^ 23))

/-- The three parts of the word with field `n`. -/
theorem fields : ∀ n : Fin 255, ((BitVec.ofNat 32 (n.val * 2 ^ 23)).extractLsb' 23 8).toNat = n.val ∧
    ((BitVec.ofNat 32 (n.val * 2 ^ 23)).extractLsb' 0 23).toNat = 0 ∧
    ((BitVec.ofNat 32 (n.val * 2 ^ 23)).extractLsb' 31 1 == 1#1) = false := by decide +kernel

/-- The words of the scale and of its inverse. -/
theorem words : ∀ n : Fin 248, IntOp.addi (BitVec.ofNat 32 (n.val * 2 ^ 23)) 8388608#32 = BitVec.ofNat 32 ((n.val + 1) * 2 ^ 23) ∧
    IntOp.subi 2122317824#32 (BitVec.ofNat 32 (n.val * 2 ^ 23)) = BitVec.ofNat 32 ((253 - n.val) * 2 ^ 23) := by decide +kernel

theorem T_pow (n : ℕ) (h1 : 1 ≤ n) (h2 : n ≤ 254) : T n = (((2 : ℝ) ^ ((n : ℤ) - 127) : ℝ) : EReal) := by
  have hex : ((BitVec.ofNat 32 (n * 2 ^ 23)).extractLsb' 23 8).toNat = n := fields ⟨n, by omega⟩ |>.1
  have hfr : ((BitVec.ofNat 32 (n * 2 ^ 23)).extractLsb' 0 23).toNat = 0 := fields ⟨n, by omega⟩ |>.2.1
  have hsg : ((BitVec.ofNat 32 (n * 2 ^ 23)).extractLsb' 31 1 == 1#1) = false :=
    fields ⟨n, by omega⟩ |>.2.2
  unfold T Ideal.ofBits Ideal.ieee
  simp only [hex, hfr, hsg]
  rw [if_neg (by omega), if_neg (by omega)]
  congr 1
  have h : ((n : ℤ) - (2 ^ (8 - 1) - 1) - ((23 : ℕ) : ℤ)) = ((n : ℤ) - 127) - 23 := by norm_num
  rw [h, zpow_sub₀ (by norm_num : (2 : ℝ) ≠ 0)]
  norm_num
  ring

theorem T_255 : T 255 = ⊤ := by
  unfold T
  simp [Ideal.ofBits, Ideal.ieee]

/-! ## The search -/

/-- What holds before the step that raises bit `b - 1`: the word is the field `n`, whose lowest `b` bits are clear, the float with
    field `n` is at most `p` and the one with field `n + 2 ^ b` is above `p`. -/
structure Inv (p : EReal) (b n : ℕ) (f : BitVec 32) : Prop where
  word : f = BitVec.ofNat 32 (n * 2 ^ 23)
  low : ∃ k, n = 2 ^ b * k
  top : n + 2 ^ b ≤ 256
  le : n = 0 ∨ T n ≤ p
  lt : n + 2 ^ b = 256 ∨ p < T (n + 2 ^ b)

theorem Inv.step {p : EReal} {b n : ℕ} {f w : BitVec 32} (h : Inv p (b + 1) n f) (hw : w = BitVec.ofNat 32 (2 ^ b * 2 ^ 23)) :
    ∃ n', Inv p b n' (kstep p w f) := by
  obtain ⟨k, hk⟩ := h.low
  have hor : IntOp.ori f w = BitVec.ofNat 32 ((n + 2 ^ b) * 2 ^ 23) := by
    show f ||| w = _
    rw [h.word, hw, ← BitVec.ofNat_or]
    congr 1
    have e1 : n * 2 ^ 23 = 2 ^ (b + 1 + 23) * k := by rw [hk]; ring
    have e2 : 2 ^ b * 2 ^ 23 < 2 ^ (b + 1 + 23) := by
      rw [← pow_add]; exact Nat.pow_lt_pow_right (by norm_num) (by omega)
    rw [e1, ← Nat.two_pow_add_eq_or_of_lt e2, add_mul, e1]
  have hT : Ideal.ofBits .f32 (IntOp.ori f w) = T (n + 2 ^ b) := by rw [hor]; rfl
  have htop := h.top
  have hp : 2 ^ (b + 1) = 2 ^ b + 2 ^ b := by ring
  unfold kstep
  by_cases hc : Ideal.ofBits .f32 (IntOp.ori f w) ≤ p
  · rw [if_pos hc]
    have htop' : n + 2 ^ b + 2 ^ b ≤ 256 := by rw [add_assoc, ← hp]; exact htop
    refine ⟨n + 2 ^ b, hor, ⟨2 * k + 1, by rw [hk]; ring⟩, htop', .inr (hT ▸ hc), ?_⟩
    have := h.lt
    rw [hp, ← add_assoc] at this
    exact this
  · rw [if_neg hc]
    refine ⟨n, h.word, ⟨2 * k, by rw [hk]; ring⟩, le_trans (by rw [hp]; exact Nat.add_le_add_left (Nat.le_add_right _ _) _) htop, h.le, .inr ?_⟩
    rw [← hT]; exact not_le.mp hc

/-- The field the search finds: the float with that field is at most `p` (or the field is 0), the next one is above `p`. -/
theorem kfield_spec (p : EReal) : ∃ n, n ≤ 255 ∧ kfield p = BitVec.ofNat 32 (n * 2 ^ 23) ∧ (n = 0 ∨ T n ≤ p)
    ∧ (n = 255 ∨ p < T (n + 1)) := by
  have h0 : Inv p 8 0 0#32 := ⟨rfl, ⟨0, rfl⟩, by norm_num, .inl rfl, .inl rfl⟩
  obtain ⟨n1, h1⟩ := h0.step (w := 1073741824#32) (by decide)
  obtain ⟨n2, h2⟩ := h1.step (w := 536870912#32) (by decide)
  obtain ⟨n3, h3⟩ := h2.step (w := 268435456#32) (by decide)
  obtain ⟨n4, h4⟩ := h3.step (w := 134217728#32) (by decide)
  obtain ⟨n5, h5⟩ := h4.step (w := 67108864#32) (by decide)
  obtain ⟨n6, h6⟩ := h5.step (w := 33554432#32) (by decide)
  obtain ⟨n7, h7⟩ := h6.step (w := 16777216#32) (by decide)
  obtain ⟨n8, h8⟩ := h7.step (w := 8388608#32) (by decide)
  have ht := h8.top
  refine ⟨n8, by omega, h8.word, h8.le, ?_⟩
  rcases h8.lt with h | h
  · left; omega
  · exact .inr (by simpa using h)

/-! ## Both exponents -/

theorem recip448_eq : ∃ c : ℝ, recip448 = (c : EReal) ∧ 1 ≤ 448 * c ∧ c < 2 ^ (-8 : ℤ) := by
  refine ⟨9586981 * 2 ^ (-32 : ℤ), ?_, by norm_num, by norm_num⟩
  unfold recip448
  simp [Ideal.ofBits, Ideal.ieee, -EReal.coe_mul]

theorem two_eq : Ideal.ofBits .f32 1073741824#32 = ((2 : ℝ) : EReal) := by
  have := T_pow 128 (by norm_num) (by norm_num)
  rw [T, show BitVec.ofNat 32 (128 * 2 ^ 23) = 1073741824#32 by decide +kernel] at this
  rw [this]; norm_num

/-- 448 times the smallest normal f32. -/
theorem low_eq : Ideal.ofBits .f32 0x04E00000#32 = ((448 * 2 ^ (-126 : ℤ) : ℝ) : EReal) := by
  simp [Ideal.ofBits, Ideal.ieee, -EReal.coe_mul]
  norm_num

/-- The largest finite bf16. -/
theorem bound_eq : ∃ B : ℝ, Ideal.ofBits .f32 0x7F7F0000#32 = (B : EReal) ∧ B < 2 ^ (128 : ℤ) := by
  refine ⟨16711680 * 2 ^ (104 : ℤ), ?_, by norm_num⟩
  simp [Ideal.ofBits, Ideal.ieee, -EReal.coe_mul]

/-- The magnitudes for which the quantiser works in normal f32 numbers: the precondition on one group. -/
def InRange (a : EReal) : Prop := a = 0 ∨ Ideal.ofBits .f32 0x04E00000#32 ≤ a ∧ a ≤ Ideal.ofBits .f32 0x7F7F0000#32

/-- For a positive `a` in range the kernel's field `n` is between 1 and 247 and the reference's exponent is `n - 126`. -/
theorem exponents (a : EReal) (hz : a ≠ 0) (hr : InRange a) :
    ∃ n : ℕ, n ≤ 247 ∧ kfield (a * recip448) = BitVec.ofNat 32 (n * 2 ^ 23) ∧ rexp a = (((n : ℝ) - 126 : ℝ) : EReal) := by
  obtain ⟨B, hBe, hBl⟩ := bound_eq
  obtain ⟨c, hc, hc0, hc1⟩ := recip448_eq
  obtain ⟨hA, hB⟩ := hr.resolve_left hz
  rw [hBe] at hB
  rw [low_eq] at hA
  induction a with
  | bot => exact absurd (le_bot_iff.mp hA) (EReal.coe_ne_bot _)
  | top => simp at hB
  | coe r =>
    have hrA : 448 * 2 ^ (-126 : ℤ) ≤ r := by exact_mod_cast hA
    have hrB : r ≤ B := by exact_mod_cast hB
    have hcpos : 0 < c := by linarith
    have hr0 : 0 < r := lt_of_lt_of_le (by positivity) hrA
    rw [hc, ← EReal.coe_mul]
    have hp0 : 0 < r * c := mul_pos hr0 hcpos
    have hpA : (2 : ℝ) ^ (-126 : ℤ) ≤ r * c := by
      calc (2 : ℝ) ^ (-126 : ℤ) ≤ 2 ^ (-126 : ℤ) * (448 * c) := le_mul_of_one_le_right (by positivity) hc0
        _ = 448 * 2 ^ (-126 : ℤ) * c := by ring
        _ ≤ r * c := mul_le_mul_of_nonneg_right hrA hcpos.le
    have hp1 : r * c < 2 ^ (120 : ℤ) := by
      calc r * c < 2 ^ (128 : ℤ) * 2 ^ (-8 : ℤ) := mul_lt_mul'' (lt_of_le_of_lt hrB hBl) hc1 hr0.le hcpos.le
        _ = 2 ^ (120 : ℤ) := by norm_num
    obtain ⟨n, hn, hw, hle, hlt⟩ := kfield_spec ((r * c : ℝ) : EReal)
    -- the field is small, since p is
    have hn247 : n ≤ 247 := by
      by_contra hcon
      rcases hle with h | h
      · omega
      · rcases Nat.lt_or_ge n 255 with h' | h'
        · rw [T_pow n (by omega) (by omega)] at h
          have h2 : (2 : ℝ) ^ ((n : ℤ) - 127) ≤ r * c := by exact_mod_cast h
          have h3 : (2 : ℝ) ^ (120 : ℤ) ≤ 2 ^ ((n : ℤ) - 127) := zpow_le_zpow_right₀ (by norm_num) (by omega)
          linarith
        · have : n = 255 := by omega
          rw [this, T_255, top_le_iff] at h
          exact EReal.coe_ne_top _ h
    refine ⟨n, hn247, hw, ?_⟩
    have hlt' : r * c < 2 ^ ((n : ℤ) - 126) := by
      rcases hlt with h | h
      · omega
      · rw [T_pow (n + 1) (by omega) (by omega)] at h
        have : r * c < (2 : ℝ) ^ (((n + 1 : ℕ) : ℤ) - 127) := by exact_mod_cast h
        convert this using 2
        push_cast; ring
    have hn0 : n ≠ 0 := by
      rintro rfl
      have : r * c < 2 ^ (-126 : ℤ) := by simpa using hlt'
      exact absurd this (not_lt.mpr hpA)
    unfold rexp
    rw [if_neg hz, hc, ← EReal.coe_mul, two_eq, Ideal.log_coe, Ideal.log_coe, if_neg (not_le.mpr hp0),
      if_neg (by norm_num), Ideal.div_coe (ne_of_gt (Real.log_pos (by norm_num))), ← EReal.coe_mul, Ideal.liftRound_coe]
    have hl2 : 0 < Real.log 2 := Real.log_pos (by norm_num)
    generalize hL : Real.log (r * c) * (1 / Real.log 2) = L
    have hLe : Real.log (r * c) = L * Real.log 2 := by rw [← hL]; field_simp
    rw [← EReal.coe_one, ← EReal.coe_add]
    congr 1
    have hlogb_lt : L < (n : ℝ) - 126 := by
      have := Real.log_lt_log hp0 hlt'
      rw [Real.log_zpow, hLe] at this
      have := lt_of_mul_lt_mul_right this hl2.le
      push_cast at this; exact this
    have h := hle.resolve_left hn0
    rw [T_pow n (by omega) (by omega)] at h
    have h2 : (2 : ℝ) ^ ((n : ℤ) - 127) ≤ r * c := by exact_mod_cast h
    have hfl : ⌊L⌋ = (n : ℤ) - 127 := by
      rw [Int.floor_eq_iff]
      constructor
      · have := Real.log_le_log (by positivity) h2
        rw [Real.log_zpow, hLe] at this
        exact le_of_mul_le_mul_right this hl2
      · push_cast; linarith
    rw [hfl]
    push_cast
    ring

theorem exp2_int (z : ℤ) : Ideal.exp2 (((z : ℝ)) : EReal) = (((2 : ℝ) ^ z : ℝ) : EReal) := by
  rw [Ideal.exp2_coe]; congr 1; exact Real.rpow_intCast 2 z

/-- The kernel's scale is the reference's. -/
theorem kscale_eq (a : EReal) (hr : InRange a) : kscale a = rscale a := by
  by_cases hz : a = 0
  · unfold kscale rscale rexp
    rw [if_pos hz, if_pos hz]
    have := exp2_int 0
    simpa using this.symm
  · obtain ⟨n, hn, hw, he⟩ := exponents a hz hr
    unfold kscale rscale
    rw [if_neg hz, hw, he]
    have e1 : IntOp.addi (BitVec.ofNat 32 (n * 2 ^ 23)) 8388608#32 = BitVec.ofNat 32 ((n + 1) * 2 ^ 23) := words ⟨n, by omega⟩ |>.1
    rw [e1]
    show T (n + 1) = _
    rw [T_pow (n + 1) (by omega) (by omega), show ((n : ℝ) - 126) = (((n : ℤ) - 126 : ℤ) : ℝ) by push_cast; ring, exp2_int]
    congr 2; push_cast; ring

/-- The kernel's inverse scale is the reference's. -/
theorem kinv_eq (a : EReal) (hr : InRange a) : kinv a = rinv a := by
  by_cases hz : a = 0
  · unfold kinv rinv rexp
    rw [if_pos hz, if_pos hz]
    have := exp2_int 0
    simpa using this.symm
  · obtain ⟨n, hn, hw, he⟩ := exponents a hz hr
    unfold kinv rinv
    rw [if_neg hz, hw, he]
    have e1 : IntOp.subi 2122317824#32 (BitVec.ofNat 32 (n * 2 ^ 23)) = BitVec.ofNat 32 ((253 - n) * 2 ^ 23) := words ⟨n, by omega⟩ |>.2
    rw [e1]
    show T (253 - n) = _
    rw [T_pow (253 - n) (by omega) (by omega), ← EReal.coe_zero, ← EReal.coe_sub,
      show ((0 : ℝ) - ((n : ℝ) - 126)) = ((126 - (n : ℤ) : ℤ) : ℝ) by push_cast; ring, exp2_int]
    congr 2; omega

end Cert.Hand

end
-- ==== Proof.Spec.lean ====
/- The three results as plain functions of one row of `x`, with the group's scale `sc` and inverse scale `inv` left open:
   the largest magnitude of a group of 128, the clipped code, and one element of `y`. `scale_congr`, `code_congr`, `yval_congr`: on a row whose groups
   are in range the kernel's scales and the reference's give the same results. -/
module

public import proofs.«01_k».proof.Proof.Scalar

@[expose] public section

noncomputable section

namespace Cert.Hand

open Idealize.ShloMosaic

/-- The magnitude. -/
def eabs (x : EReal) : EReal := max x (-x)

/-- The largest magnitude among 128 values. -/
def amax (v : Fin 128 → EReal) : EReal :=
  Finset.univ.fold max (Ideal.ofBits .f32 4286578688#32) fun l => eabs (v l)

/-- One value times the inverse scale, clipped to the range of the codes. -/
def clip (u : EReal) : EReal := min (Ideal.ofBits .f32 1138753536#32) (max (Ideal.ofBits .f32 3286237184#32) u)

/-- Position `l` of group `g`. -/
def at128 (g : Fin 56) (l : Fin 128) : Fin 7168 := ⟨g.val * 128 + l.val, by omega⟩

/-- Group `g` of a row. -/
def grp (row : Fin 7168 → EReal) (g : Fin 56) : Fin 128 → EReal := fun l => row (at128 g l)

/-- The group of a column. -/
def grpOf (k : Fin 7168) : Fin 56 := ⟨k.val / 128, by omega⟩

/-- One code. -/
def code (inv : EReal → EReal) (row : Fin 7168 → EReal) (k : Fin 7168) : EReal :=
  clip (row k * inv (amax (grp row (grpOf k))))

/-- One group's part of one element of `y`: the codes times the group's weights, times both scales. -/
def part (sc inv : EReal → EReal) (v : Fin 128 → EReal) (w : Fin 128 → EReal) (s : EReal) : EReal :=
  (∑ l, clip (v l * inv (amax v)) * w l) * sc (amax v) * s

/-- One element of `y`: the parts of the 56 groups, and the bias. -/
def yval (sc inv : EReal → EReal) (row : Fin 7168 → EReal) (w : Fin 7168 → EReal) (s : Fin 56 → EReal) (b : EReal) : EReal :=
  ∑ g, part sc inv (grp row g) (grp w g) (s g) + b

/-- The precondition on one row: every group's largest magnitude is in range. -/
def RowInRange (row : Fin 7168 → EReal) : Prop := ∀ g, InRange (amax (grp row g))

theorem scale_congr {row : Fin 7168 → EReal} (h : RowInRange row) (g : Fin 56) :
    kscale (amax (grp row g)) = rscale (amax (grp row g)) :=
  kscale_eq _ (h g)

theorem inv_congr {row : Fin 7168 → EReal} (h : RowInRange row) (g : Fin 56) :
    kinv (amax (grp row g)) = rinv (amax (grp row g)) :=
  kinv_eq _ (h g)

theorem code_congr {row : Fin 7168 → EReal} (h : RowInRange row) (k : Fin 7168) : code kinv row k = code rinv row k := by
  unfold code; rw [inv_congr h]

theorem yval_congr {row : Fin 7168 → EReal} (h : RowInRange row) (w : Fin 7168 → EReal) (s : Fin 56 → EReal) (b : EReal) :
    yval kscale kinv row w s b = yval rscale rinv row w s b := by
  unfold yval part
  simp only [scale_congr h, inv_congr h]

end Cert.Hand

end
-- ==== Proof.Block.lean ====
/- One group of the kernel's body read at an index over the extended reals: its scale, its codes and the accumulator's update
   are `kscale`, `clip` of the value times `kinv`, and the group's `part`. -/
module

public import proofs.«01_k».proof.Proof.Group
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Hand Idealize.ShloMosaic Idealize.SL.Sem

/-- One step of the search on a column of 256. -/
def vstep {F : FTy → Type} [FloatOps F] (p : FVec F S256x1 .f32) (w : BitVec 32) (f : IVec S256x1 32) : IVec S256x1 32 :=
  select (cmpf .oge p (bitcastToFloat .f32 (ori f (broadcast S256x1 w)))) (ori f (broadcast S256x1 w)) f

theorem vstep_apply (p : FVec Ideal S256x1 .f32) (w : BitVec 32) (f : IVec S256x1 32) (r : Fin 256) :
    vstep p w f (ix2 r 0) = kstep (p (ix2 r 0)) w (f (ix2 r 0)) := by
  pointwise [vstep]
  rfl

theorem pay7_eq (p : FVec Ideal S256x1 .f32) (w : BitVec 32) (f : IVec S256x1 32) : k0_pay7 p f w = vstep p w f := rfl

theorem pay6_eq (v : Vec Ideal S256x128 .bf16) : k0_pay6 v =
    vstep (k0_pay5 v) 16777216#32 (vstep (k0_pay5 v) 33554432#32 (vstep (k0_pay5 v) 67108864#32 (vstep (k0_pay5 v) 134217728#32
      (vstep (k0_pay5 v) 268435456#32 (vstep (k0_pay5 v) 536870912#32 (vstep (k0_pay5 v) 1073741824#32
        (broadcast S256x1 0#32))))))) := rfl

theorem vfield7_apply (p : FVec Ideal S256x1 .f32) (r : Fin 256) :
    vstep p 16777216#32 (vstep p 33554432#32 (vstep p 67108864#32 (vstep p 134217728#32
      (vstep p 268435456#32 (vstep p 536870912#32 (vstep p 1073741824#32 (broadcast S256x1 0#32))))))) (ix2 r 0)
      = kfield7 (p (ix2 r 0)) := by
  simp only [vstep_apply]; rfl

theorem pay4_apply (v : Vec Ideal S256x128 .bf16) (r : Fin 256) :
    k0_pay4 v (ix2 r 0) = amax fun l => v (ix2 r l) := by
  pointwise [k0_pay4, k0_pay3]
  rfl

theorem pay5_apply (v : Vec Ideal S256x128 .bf16) (r : Fin 256) :
    k0_pay5 v (ix2 r 0) = (amax fun l => v (ix2 r l)) * recip448 := by
  rw [← pay4_apply]
  rfl

theorem pay7_apply (v : Vec Ideal S256x128 .bf16) (r : Fin 256) :
    k0_pay7 (k0_pay5 v) (k0_pay6 v) 8388608#32 (ix2 r 0) = kfield ((amax fun l => v (ix2 r l)) * recip448) := by
  rw [pay7_eq, vstep_apply, pay6_eq, vfield7_apply, pay5_apply]
  rfl

/-- The scale of a group, from the vectors its payload reads. -/
theorem pay9_apply (v6 v8 : FVec Ideal S256x1 .f32) (v44 : IVec S256x1 32) (r : Fin 256) :
    k0_pay9 v6 v8 v44 8388608#32 (ix2 r 0) = if v6 (ix2 r 0) = 0 then 1 else
      Ideal.ofBits .f32 (IntOp.addi (k0_pay7 v8 v44 8388608#32 (ix2 r 0)) 8388608#32) := by
  pointwise [k0_pay9, k0_pay8]

/-- The codes of a group, from the vectors their payload reads. -/
theorem pay10_apply (v3 : FVec Ideal S256x128 .f32) (v6 v8 : FVec Ideal S256x1 .f32) (v44 : IVec S256x1 32) (r : Fin 256) (l : Fin 128) :
    k0_pay10 v3 v6 v8 v44 8388608#32 (ix2 r l) = clip (v3 (ix2 r l) * if v6 (ix2 r 0) = 0 then 1 else
      Ideal.ofBits .f32 (IntOp.subi 2122317824#32 (k0_pay7 v8 v44 8388608#32 (ix2 r 0)))) := by
  pointwise [k0_pay10, k0_pay8]
  rfl

/-- The accumulator's update, from the vectors its payload reads. -/
theorem pay11_apply (acc : FVec Ideal S256x1152 .f32) (v3 : FVec Ideal S256x128 .f32) (v6 v8 : FVec Ideal S256x1 .f32) (v44 : IVec S256x1 32)
    (w : Vec Ideal S128x1152 .fp8e4m3) (sw : Vec Ideal S1x1152 .f32) (r : Fin 256) (c : Fin 1152) :
    k0_pay11 acc v3 v6 v8 v44 8388608#32 w sw (ix2 r c) = acc (ix2 r c) +
      (∑ l, k0_pay10 v3 v6 v8 v44 8388608#32 (ix2 r l) * w (ix2 l c)) * k0_pay9 v6 v8 v44 8388608#32 (ix2 r 0) * sw (ix2 0 c) := by
  pointwise [k0_pay11]

theorem grpScale_apply (v : Vec Ideal S256x128 .bf16) (r : Fin 256) :
    grpScale v (ix2 r 0) = kscale (amax fun l => v (ix2 r l)) := by
  rw [grpScale, pay9_apply, pay7_apply, pay4_apply]
  rfl

theorem pay3_apply (v : Vec Ideal S256x128 .bf16) (r : Fin 256) (l : Fin 128) : k0_pay3 v (ix2 r l) = v (ix2 r l) := by
  pointwise [k0_pay3]

theorem grpCodes_apply (v : Vec Ideal S256x128 .bf16) (r : Fin 256) (l : Fin 128) :
    grpCodes v (ix2 r l) = clip (v (ix2 r l) * kinv (amax fun l => v (ix2 r l))) := by
  rw [grpCodes, pay10_apply, pay7_apply, pay4_apply, pay3_apply]
  rfl

theorem grpStep_apply (acc : FVec Ideal S256x1152 .f32) (v : Vec Ideal S256x128 .bf16) (w : Vec Ideal S128x1152 .fp8e4m3)
    (sw : Vec Ideal S1x1152 .f32) (r : Fin 256) (c : Fin 1152) :
    grpStep acc v w sw (ix2 r c) = acc (ix2 r c) + part kscale kinv (fun l => v (ix2 r l)) (fun l => w (ix2 l c)) (sw (ix2 0 c)) := by
  rw [grpStep, pay11_apply]
  have h9 := grpScale_apply v r
  rw [grpScale] at h9
  have h10 := fun l => grpCodes_apply v r l
  simp only [grpCodes] at h10
  simp only [h9, h10]
  rfl

end Cert.KernelIdeal.Hand

end
-- ==== Proof.Loads.lean ====
/- The loads of one group, read at an index. -/
module

public import proofs.«01_k».proof.Proof.Group
public import proofs.«01_k».proof.Proof.Block
public import Idealize.ShloMosaic.Lib.Pipeline.ValueKit

@[expose] public section

set_option maxRecDepth 16384

noncomputable section

namespace Cert.KernelIdeal.Hand

open Cert.KernelIdeal Cert.KernelIdeal.Gen Cert.Hand Idealize.ShloMosaic Idealize.SL.Sem

variable (x0 : Vec Ideal S256x7168 .bf16) (x1 : Vec Ideal S7168x1152 .fp8e4m3) (x2 : Vec Ideal S56x1152 .f32) (x3 : Vec Ideal S1x1152 .f32)

/-- A load of group `g`'s block of `x`, read at an index. -/
theorem ld_x (g : Fin 56) (off : Fin 2 → ℕ) (h : off = ![0, 128 * g.val]) (inb) (r : Fin 256) (l : Fin 128) :
    View.ld x0 (Rect.unit (s := S256x7168) off S256x128.size inb) (ix2 r l) = x0 (ix2 r (at128 g l)) := by
  subst h
  refine View.ld_unit_apply_of x0 _ _ inb (ix2 r l) _ fun a => ?_
  fin_cases a
  · show r.val = 0 + r.val
    omega
  · show g.val * 128 + l.val = 128 * g.val + l.val
    omega

/-- A load of group `g`'s weights, read at an index. -/
theorem ld_w (g : Fin 56) (off : Fin 2 → ℕ) (h : off = ![128 * g.val, 0]) (inb) (l : Fin 128) (c : Fin 1152) :
    View.ld x1 (Rect.unit (s := S7168x1152) off S128x1152.size inb) (ix2 l c) = x1 (ix2 (at128 g l) c) := by
  subst h
  refine View.ld_unit_apply_of x1 _ _ inb (ix2 l c) _ fun a => ?_
  fin_cases a
  · show g.val * 128 + l.val = 128 * g.val + l.val
    omega
  · show c.val = 0 + c.val
    omega

/-- A load of group `g`'s row of weight scales, read at an index. -/
theorem ld_s (g : Fin 56) (off : Fin 2 → ℕ) (h : off = ![g.val, 0]) (inb) (c : Fin 1152) :
    View.ld x2 (Rect.unit (s := S56x1152) off S1x1152.size inb) (ix2 0 c) = x2 (ix2 g c) := by
  subst h
  refine View.ld_unit_apply_of x2 _ _ inb (ix2 0 c) _ fun a => ?_
  fin_cases a
  · show g.val = g.val + 0
    omega
  · show c.val = 0 + c.val
    omega

end Cert.KernelIdeal.Hand

end
-- ==== Proof.ScalesAt.lean ====
/- The kernel's block of scales at an index. -/
module

public import proofs.«01_k».proof.Proof.Scales
public import proofs.«01_k».proof.Proof.Loads
public import Idealize.ShloMosaic.Lib.Pipeline.ValueKit

@[expose] public section

set_option maxRecDepth 16384

noncomputable section

namespace Cert.KernelIdeal.Hand

open Cert.KernelIdeal Cert.KernelIdeal.Gen Cert.Hand Idealize.ShloMosaic Idealize.SL.Sem

variable (x0 : Vec Ideal S256x7168 .bf16) (x1 : Vec Ideal S7168x1152 .fp8e4m3) (x2 : Vec Ideal S56x1152 .f32) (x3 : Vec Ideal S1x1152 .f32)

theorem out6_apply (r : Fin 256) (g : Fin 56) :
    out0_6 x0 x1 x2 x3 (ix2 r g) = kscale (amax (grp (fun k => x0 (ix2 r k)) g)) := by
  rw [out6_eq, View.canon_unit_zero (by funext a; fin_cases a <;> rfl)]
  rw [concatenate_ofFn_unit_apply 1 (fun g : Fin 56 => grpScale (View.ld x0 (rx g))) (concats x0) rfl rfl (ix2 r g) g rfl (ix2 r 0)
    (by
      intro b hb
      fin_cases b
      · rfl
      · exact absurd rfl hb)]
  rw [grpScale_apply]
  simp only [ld_x x0 g _ rfl]
  rfl

end Cert.KernelIdeal.Hand

end
-- ==== Proof.Codes.lean ====
/- The 56 stores of codes: each stored block is `grpCodes` of the block of `x` at the same rectangle. -/
module

public import proofs.«01_k».proof.Proof.Group

@[expose] public section

noncomputable section

namespace Cert.KernelIdeal.Hand

open Cert.KernelIdeal Cert.KernelIdeal.Gen Idealize.ShloMosaic Idealize.SL.Sem

variable {F : FTy → Type} [FloatOps F]
variable (x0 : Vec F S256x7168 .bf16) (x1 : Vec F S7168x1152 .fp8e4m3) (x2 : Vec F S56x1152 .f32) (x3 : Vec F S1x1152 .f32)

theorem codes_0 : (k0_pay10 (k0_pay574 x0 x1 x2 x3) (k0_pay575 x0 x1 x2 x3) (k0_pay576 x0 x1 x2 x3) (k0_pay577 x0 x1 x2 x3) 8388608#32) = grpCodes (View.ld x0 r0_0) := rfl
theorem codes_1 : (k0_pay20 (k0_pay578 x0 x1 x2 x3) (k0_pay579 x0 x1 x2 x3) (k0_pay582 x0 x1 x2 x3) (Scalar.ofBits .f32 0x00000000#32)) = grpCodes (View.ld x0 r0_3) := rfl
theorem codes_2 : (k0_pay32 (Scalar.ofBits .f32 0x43E00000#32) (k0_pay589 x0 x1 x2 x3)) = grpCodes (View.ld x0 r0_6) := rfl
theorem codes_3 : (k0_pay41 (k0_pay590 x0 x1 x2 x3) (k0_pay591 x0 x1 x2 x3) (k0_pay592 x0 x1 x2 x3) (k0_pay593 x0 x1 x2 x3) 67108864#32) = grpCodes (View.ld x0 r0_9) := rfl
theorem codes_4 : (k0_pay52 (k0_pay594 x0 x1 x2 x3) (k0_pay595 x0 x1 x2 x3) (k0_pay596 x0 x1 x2 x3) (k0_pay597 x0 x1 x2 x3) (k0_pay598 x0 x1 x2 x3)) = grpCodes (View.ld x0 r0_12) := rfl
theorem codes_5 : (k0_pay61 (k0_pay599 x0 x1 x2 x3) (k0_pay601 x0 x1 x2 x3) (k0_pay602 x0 x1 x2 x3) 2122317824#32) = grpCodes (View.ld x0 r0_15) := rfl
theorem codes_6 : (k0_pay71 (k0_pay608 x0 x1 x2 x3)) = grpCodes (View.ld x0 r0_18) := rfl
theorem codes_7 : (k0_pay81 (k0_pay609 x0 x1 x2 x3) (k0_pay610 x0 x1 x2 x3) (k0_pay611 x0 x1 x2 x3) (k0_pay612 x0 x1 x2 x3) (k0_pay613 x0 x1 x2 x3)) = grpCodes (View.ld x0 r0_21) := rfl
theorem codes_8 : (k0_pay92 (k0_pay615 x0 x1 x2 x3) (k0_pay616 x0 x1 x2 x3) (k0_pay617 x0 x1 x2 x3) (k0_pay618 x0 x1 x2 x3) (k0_pay619 x0 x1 x2 x3) (k0_pay620 x0 x1 x2 x3)) = grpCodes (View.ld x0 r0_24) := rfl
theorem codes_9 : (k0_pay99 (k0_pay621 x0 x1 x2 x3) (k0_pay622 x0 x1 x2 x3) (k0_pay623 x0 x1 x2 x3)) = grpCodes (View.ld x0 r0_27) := rfl
theorem codes_10 : (k0_pay110 (k0_pay624 x0 x1 x2 x3) (k0_pay629 x0 x1 x2 x3) (k0_pay630 x0 x1 x2 x3) (Scalar.ofBits .f32 0x3F800000#32)) = grpCodes (View.ld x0 r0_30) := rfl
theorem codes_11 : (k0_pay638 x0 x1 x2 x3) = grpCodes (View.ld x0 r0_33) := rfl
theorem codes_12 : (k0_pay130 (k0_pay639 x0 x1 x2 x3) (k0_pay640 x0 x1 x2 x3) (k0_pay641 x0 x1 x2 x3) (k0_pay642 x0 x1 x2 x3) 33554432#32) = grpCodes (View.ld x0 r0_36) := rfl
theorem codes_13 : (k0_pay141 (k0_pay643 x0 x1 x2 x3) (k0_pay644 x0 x1 x2 x3) (k0_pay645 x0 x1 x2 x3) (k0_pay646 x0 x1 x2 x3) (k0_pay647 x0 x1 x2 x3)) = grpCodes (View.ld x0 r0_39) := rfl
theorem codes_14 : (k0_pay151 (k0_pay648 x0 x1 x2 x3) (k0_pay651 x0 x1 x2 x3) (k0_pay652 x0 x1 x2 x3)) = grpCodes (View.ld x0 r0_42) := rfl
theorem codes_15 : (k0_pay161 (k0_pay657 x0 x1 x2 x3)) = grpCodes (View.ld x0 r0_45) := rfl
theorem codes_16 : (k0_pay171 (k0_pay658 x0 x1 x2 x3) (k0_pay659 x0 x1 x2 x3) (k0_pay660 x0 x1 x2 x3) (k0_pay661 x0 x1 x2 x3) (k0_pay662 x0 x1 x2 x3)) = grpCodes (View.ld x0 r0_48) := rfl
theorem codes_17 : (k0_pay183 (k0_pay663 x0 x1 x2 x3) (k0_pay664 x0 x1 x2 x3) (k0_pay665 x0 x1 x2 x3) (k0_pay666 x0 x1 x2 x3) (k0_pay667 x0 x1 x2 x3) (k0_pay668 x0 x1 x2 x3)) = grpCodes (View.ld x0 r0_51) := rfl
theorem codes_18 : (k0_pay192 (k0_pay669 x0 x1 x2 x3) (k0_pay670 x0 x1 x2 x3) (k0_pay672 x0 x1 x2 x3)) = grpCodes (View.ld x0 r0_54) := rfl
theorem codes_19 : (k0_pay203 (k0_pay678 x0 x1 x2 x3) (Scalar.ofBits .f32 0xC3E00000#32) (Scalar.ofBits .f32 0x43E00000#32)) = grpCodes (View.ld x0 r0_57) := rfl
theorem codes_20 : (k0_pay214 (k0_pay679 x0 x1 x2 x3) (k0_pay680 x0 x1 x2 x3) (k0_pay681 x0 x1 x2 x3) (k0_pay682 x0 x1 x2 x3) (k0_pay683 x0 x1 x2 x3) (k0_pay684 x0 x1 x2 x3)) = grpCodes (View.ld x0 r0_60) := rfl
theorem codes_21 : (k0_pay224 (k0_pay686 x0 x1 x2 x3) (k0_pay687 x0 x1 x2 x3) (k0_pay688 x0 x1 x2 x3) (k0_pay689 x0 x1 x2 x3) 16777216#32) = grpCodes (View.ld x0 r0_63) := rfl
theorem codes_22 : (k0_pay232 (k0_pay690 x0 x1 x2 x3) (k0_pay691 x0 x1 x2 x3) (k0_pay692 x0 x1 x2 x3)) = grpCodes (View.ld x0 r0_66) := rfl
theorem codes_23 : (k0_pay244 (k0_pay694 x0 x1 x2 x3) (k0_pay701 x0 x1 x2 x3)) = grpCodes (View.ld x0 r0_69) := rfl
theorem codes_24 : (k0_pay253 (k0_pay702 x0 x1 x2 x3) (k0_pay703 x0 x1 x2 x3) (k0_pay704 x0 x1 x2 x3) (k0_pay705 x0 x1 x2 x3) 134217728#32) = grpCodes (View.ld x0 r0_72) := rfl
theorem codes_25 : (k0_pay263 (k0_pay707 x0 x1 x2 x3) (k0_pay708 x0 x1 x2 x3) (k0_pay709 x0 x1 x2 x3) (k0_pay710 x0 x1 x2 x3) (k0_pay711 x0 x1 x2 x3)) = grpCodes (View.ld x0 r0_75) := rfl
theorem codes_26 : (k0_pay274 (k0_pay712 x0 x1 x2 x3) (k0_pay713 x0 x1 x2 x3) (k0_pay714 x0 x1 x2 x3) (k0_pay715 x0 x1 x2 x3) (k0_pay716 x0 x1 x2 x3)) = grpCodes (View.ld x0 r0_78) := rfl
theorem codes_27 : (k0_pay286 (k0_pay717 x0 x1 x2 x3) (k0_pay721 x0 x1 x2 x3) (k0_pay722 x0 x1 x2 x3)) = grpCodes (View.ld x0 r0_81) := rfl
theorem codes_28 : (k0_pay729 x0 x1 x2 x3) = grpCodes (View.ld x0 r0_84) := rfl
theorem codes_29 : (k0_pay307 (k0_pay730 x0 x1 x2 x3) (k0_pay731 x0 x1 x2 x3) (k0_pay732 x0 x1 x2 x3) (k0_pay733 x0 x1 x2 x3) (k0_pay734 x0 x1 x2 x3) (k0_pay735 x0 x1 x2 x3)) = grpCodes (View.ld x0 r0_87) := rfl
theorem codes_30 : (k0_pay318 (k0_pay736 x0 x1 x2 x3) (k0_pay737 x0 x1 x2 x3) (k0_pay738 x0 x1 x2 x3) (k0_pay739 x0 x1 x2 x3) 8388608#32) = grpCodes (View.ld x0 r0_90) := rfl
theorem codes_31 : (k0_pay328 (k0_pay740 x0 x1 x2 x3) (k0_pay741 x0 x1 x2 x3) (k0_pay744 x0 x1 x2 x3) (Scalar.ofBits .f32 0x00000000#32)) = grpCodes (View.ld x0 r0_93) := rfl
theorem codes_32 : (k0_pay340 (Scalar.ofBits .f32 0x43E00000#32) (k0_pay751 x0 x1 x2 x3)) = grpCodes (View.ld x0 r0_96) := rfl
theorem codes_33 : (k0_pay349 (k0_pay752 x0 x1 x2 x3) (k0_pay753 x0 x1 x2 x3) (k0_pay754 x0 x1 x2 x3) (k0_pay755 x0 x1 x2 x3) 67108864#32) = grpCodes (View.ld x0 r0_99) := rfl
theorem codes_34 : (k0_pay360 (k0_pay756 x0 x1 x2 x3) (k0_pay757 x0 x1 x2 x3) (k0_pay758 x0 x1 x2 x3) (k0_pay759 x0 x1 x2 x3) (k0_pay760 x0 x1 x2 x3)) = grpCodes (View.ld x0 r0_102) := rfl
theorem codes_35 : (k0_pay369 (k0_pay761 x0 x1 x2 x3) (k0_pay763 x0 x1 x2 x3) (k0_pay764 x0 x1 x2 x3) 2122317824#32) = grpCodes (View.ld x0 r0_105) := rfl
theorem codes_36 : (k0_pay379 (k0_pay770 x0 x1 x2 x3)) = grpCodes (View.ld x0 r0_108) := rfl
theorem codes_37 : (k0_pay389 (k0_pay771 x0 x1 x2 x3) (k0_pay772 x0 x1 x2 x3) (k0_pay773 x0 x1 x2 x3) (k0_pay774 x0 x1 x2 x3) (k0_pay775 x0 x1 x2 x3)) = grpCodes (View.ld x0 r0_111) := rfl
theorem codes_38 : (k0_pay400 (k0_pay777 x0 x1 x2 x3) (k0_pay778 x0 x1 x2 x3) (k0_pay779 x0 x1 x2 x3) (k0_pay780 x0 x1 x2 x3) (k0_pay781 x0 x1 x2 x3) (k0_pay782 x0 x1 x2 x3)) = grpCodes (View.ld x0 r0_114) := rfl
theorem codes_39 : (k0_pay407 (k0_pay783 x0 x1 x2 x3) (k0_pay784 x0 x1 x2 x3) (k0_pay785 x0 x1 x2 x3)) = grpCodes (View.ld x0 r0_117) := rfl
theorem codes_40 : (k0_pay418 (k0_pay786 x0 x1 x2 x3) (k0_pay791 x0 x1 x2 x3) (k0_pay792 x0 x1 x2 x3) (Scalar.ofBits .f32 0x3F800000#32)) = grpCodes (View.ld x0 r0_120) := rfl
theorem codes_41 : (k0_pay800 x0 x1 x2 x3) = grpCodes (View.ld x0 r0_123) := rfl
theorem codes_42 : (k0_pay438 (k0_pay801 x0 x1 x2 x3) (k0_pay802 x0 x1 x2 x3) (k0_pay803 x0 x1 x2 x3) (k0_pay804 x0 x1 x2 x3) 33554432#32) = grpCodes (View.ld x0 r0_126) := rfl
theorem codes_43 : (k0_pay449 (k0_pay805 x0 x1 x2 x3) (k0_pay806 x0 x1 x2 x3) (k0_pay807 x0 x1 x2 x3) (k0_pay808 x0 x1 x2 x3) (k0_pay809 x0 x1 x2 x3)) = grpCodes (View.ld x0 r0_129) := rfl
theorem codes_44 : (k0_pay459 (k0_pay810 x0 x1 x2 x3) (k0_pay813 x0 x1 x2 x3) (k0_pay814 x0 x1 x2 x3)) = grpCodes (View.ld x0 r0_132) := rfl
theorem codes_45 : (k0_pay469 (k0_pay819 x0 x1 x2 x3)) = grpCodes (View.ld x0 r0_135) := rfl
theorem codes_46 : (k0_pay479 (k0_pay820 x0 x1 x2 x3) (k0_pay821 x0 x1 x2 x3) (k0_pay822 x0 x1 x2 x3) (k0_pay823 x0 x1 x2 x3) (k0_pay824 x0 x1 x2 x3)) = grpCodes (View.ld x0 r0_138) := rfl
theorem codes_47 : (k0_pay491 (k0_pay825 x0 x1 x2 x3) (k0_pay826 x0 x1 x2 x3) (k0_pay827 x0 x1 x2 x3) (k0_pay828 x0 x1 x2 x3) (k0_pay829 x0 x1 x2 x3) (k0_pay830 x0 x1 x2 x3)) = grpCodes (View.ld x0 r0_141) := rfl
theorem codes_48 : (k0_pay500 (k0_pay831 x0 x1 x2 x3) (k0_pay832 x0 x1 x2 x3) (k0_pay834 x0 x1 x2 x3)) = grpCodes (View.ld x0 r0_144) := rfl
theorem codes_49 : (k0_pay511 (k0_pay840 x0 x1 x2 x3) (Scalar.ofBits .f32 0xC3E00000#32) (Scalar.ofBits .f32 0x43E00000#32)) = grpCodes (View.ld x0 r0_147) := rfl
theorem codes_50 : (k0_pay522 (k0_pay841 x0 x1 x2 x3) (k0_pay842 x0 x1 x2 x3) (k0_pay843 x0 x1 x2 x3) (k0_pay844 x0 x1 x2 x3) (k0_pay845 x0 x1 x2 x3) (k0_pay846 x0 x1 x2 x3)) = grpCodes (View.ld x0 r0_150) := rfl
theorem codes_51 : (k0_pay532 (k0_pay848 x0 x1 x2 x3) (k0_pay849 x0 x1 x2 x3) (k0_pay850 x0 x1 x2 x3) (k0_pay851 x0 x1 x2 x3) 16777216#32) = grpCodes (View.ld x0 r0_153) := rfl
theorem codes_52 : (k0_pay540 (k0_pay852 x0 x1 x2 x3) (k0_pay853 x0 x1 x2 x3) (k0_pay854 x0 x1 x2 x3)) = grpCodes (View.ld x0 r0_156) := rfl
theorem codes_53 : (k0_pay552 (k0_pay856 x0 x1 x2 x3) (k0_pay863 x0 x1 x2 x3)) = grpCodes (View.ld x0 r0_159) := rfl
theorem codes_54 : (k0_pay561 (k0_pay864 x0 x1 x2 x3) (k0_pay865 x0 x1 x2 x3) (k0_pay866 x0 x1 x2 x3) (k0_pay867 x0 x1 x2 x3) 134217728#32) = grpCodes (View.ld x0 r0_162) := rfl
theorem codes_55 : (k0_pay571 (k0_pay869 x0 x1 x2 x3) (k0_pay870 x0 x1 x2 x3) (k0_pay871 x0 x1 x2 x3) (k0_pay872 x0 x1 x2 x3) (k0_pay873 x0 x1 x2 x3)) = grpCodes (View.ld x0 r0_165) := rfl

/-- The codes' buffer after the body. -/
theorem out5_eq : out0_5 x0 x1 x2 x3 = View.canon [
    ⟨r0_165, grpCodes (View.ld x0 r0_165)⟩,
    ⟨r0_162, grpCodes (View.ld x0 r0_162)⟩,
    ⟨r0_159, grpCodes (View.ld x0 r0_159)⟩,
    ⟨r0_156, grpCodes (View.ld x0 r0_156)⟩,
    ⟨r0_153, grpCodes (View.ld x0 r0_153)⟩,
    ⟨r0_150, grpCodes (View.ld x0 r0_150)⟩,
    ⟨r0_147, grpCodes (View.ld x0 r0_147)⟩,
    ⟨r0_144, grpCodes (View.ld x0 r0_144)⟩,
    ⟨r0_141, grpCodes (View.ld x0 r0_141)⟩,
    ⟨r0_138, grpCodes (View.ld x0 r0_138)⟩,
    ⟨r0_135, grpCodes (View.ld x0 r0_135)⟩,
    ⟨r0_132, grpCodes (View.ld x0 r0_132)⟩,
    ⟨r0_129, grpCodes (View.ld x0 r0_129)⟩,
    ⟨r0_126, grpCodes (View.ld x0 r0_126)⟩,
    ⟨r0_123, grpCodes (View.ld x0 r0_123)⟩,
    ⟨r0_120, grpCodes (View.ld x0 r0_120)⟩,
    ⟨r0_117, grpCodes (View.ld x0 r0_117)⟩,
    ⟨r0_114, grpCodes (View.ld x0 r0_114)⟩,
    ⟨r0_111, grpCodes (View.ld x0 r0_111)⟩,
    ⟨r0_108, grpCodes (View.ld x0 r0_108)⟩,
    ⟨r0_105, grpCodes (View.ld x0 r0_105)⟩,
    ⟨r0_102, grpCodes (View.ld x0 r0_102)⟩,
    ⟨r0_99, grpCodes (View.ld x0 r0_99)⟩,
    ⟨r0_96, grpCodes (View.ld x0 r0_96)⟩,
    ⟨r0_93, grpCodes (View.ld x0 r0_93)⟩,
    ⟨r0_90, grpCodes (View.ld x0 r0_90)⟩,
    ⟨r0_87, grpCodes (View.ld x0 r0_87)⟩,
    ⟨r0_84, grpCodes (View.ld x0 r0_84)⟩,
    ⟨r0_81, grpCodes (View.ld x0 r0_81)⟩,
    ⟨r0_78, grpCodes (View.ld x0 r0_78)⟩,
    ⟨r0_75, grpCodes (View.ld x0 r0_75)⟩,
    ⟨r0_72, grpCodes (View.ld x0 r0_72)⟩,
    ⟨r0_69, grpCodes (View.ld x0 r0_69)⟩,
    ⟨r0_66, grpCodes (View.ld x0 r0_66)⟩,
    ⟨r0_63, grpCodes (View.ld x0 r0_63)⟩,
    ⟨r0_60, grpCodes (View.ld x0 r0_60)⟩,
    ⟨r0_57, grpCodes (View.ld x0 r0_57)⟩,
    ⟨r0_54, grpCodes (View.ld x0 r0_54)⟩,
    ⟨r0_51, grpCodes (View.ld x0 r0_51)⟩,
    ⟨r0_48, grpCodes (View.ld x0 r0_48)⟩,
    ⟨r0_45, grpCodes (View.ld x0 r0_45)⟩,
    ⟨r0_42, grpCodes (View.ld x0 r0_42)⟩,
    ⟨r0_39, grpCodes (View.ld x0 r0_39)⟩,
    ⟨r0_36, grpCodes (View.ld x0 r0_36)⟩,
    ⟨r0_33, grpCodes (View.ld x0 r0_33)⟩,
    ⟨r0_30, grpCodes (View.ld x0 r0_30)⟩,
    ⟨r0_27, grpCodes (View.ld x0 r0_27)⟩,
    ⟨r0_24, grpCodes (View.ld x0 r0_24)⟩,
    ⟨r0_21, grpCodes (View.ld x0 r0_21)⟩,
    ⟨r0_18, grpCodes (View.ld x0 r0_18)⟩,
    ⟨r0_15, grpCodes (View.ld x0 r0_15)⟩,
    ⟨r0_12, grpCodes (View.ld x0 r0_12)⟩,
    ⟨r0_9, grpCodes (View.ld x0 r0_9)⟩,
    ⟨r0_6, grpCodes (View.ld x0 r0_6)⟩,
    ⟨r0_3, grpCodes (View.ld x0 r0_3)⟩,
    ⟨r0_0, grpCodes (View.ld x0 r0_0)⟩] := by
  unfold out0_5
  rw [codes_55 x0 x1 x2 x3, codes_54 x0 x1 x2 x3, codes_53 x0 x1 x2 x3, codes_52 x0 x1 x2 x3, codes_51 x0 x1 x2 x3, codes_50 x0 x1 x2 x3, codes_49 x0 x1 x2 x3, codes_48 x0 x1 x2 x3, codes_47 x0 x1 x2 x3, codes_46 x0 x1 x2 x3, codes_45 x0 x1 x2 x3, codes_44 x0 x1 x2 x3, codes_43 x0 x1 x2 x3, codes_42 x0 x1 x2 x3, codes_41 x0 x1 x2 x3, codes_40 x0 x1 x2 x3, codes_39 x0 x1 x2 x3, codes_38 x0 x1 x2 x3, codes_37 x0 x1 x2 x3, codes_36 x0 x1 x2 x3, codes_35 x0 x1 x2 x3, codes_34 x0 x1 x2 x3, codes_33 x0 x1 x2 x3, codes_32 x0 x1 x2 x3, codes_31 x0 x1 x2 x3, codes_30 x0 x1 x2 x3, codes_29 x0 x1 x2 x3, codes_28 x0 x1 x2 x3, codes_27 x0 x1 x2 x3, codes_26 x0 x1 x2 x3, codes_25 x0 x1 x2 x3, codes_24 x0 x1 x2 x3, codes_23 x0 x1 x2 x3, codes_22 x0 x1 x2 x3, codes_21 x0 x1 x2 x3, codes_20 x0 x1 x2 x3, codes_19 x0 x1 x2 x3, codes_18 x0 x1 x2 x3, codes_17 x0 x1 x2 x3, codes_16 x0 x1 x2 x3, codes_15 x0 x1 x2 x3, codes_14 x0 x1 x2 x3, codes_13 x0 x1 x2 x3, codes_12 x0 x1 x2 x3, codes_11 x0 x1 x2 x3, codes_10 x0 x1 x2 x3, codes_9 x0 x1 x2 x3, codes_8 x0 x1 x2 x3, codes_7 x0 x1 x2 x3, codes_6 x0 x1 x2 x3, codes_5 x0 x1 x2 x3, codes_4 x0 x1 x2 x3, codes_3 x0 x1 x2 x3, codes_2 x0 x1 x2 x3, codes_1 x0 x1 x2 x3, codes_0 x0 x1 x2 x3]

end Cert.KernelIdeal.Hand

end
-- ==== Proof.CodesAt.lean ====
/- The kernel's block of codes at an index. -/
module

public import proofs.«01_k».proof.Proof.Codes
public import proofs.«01_k».proof.Proof.Loads
public import Idealize.ShloMosaic.Lib.Pipeline.ValueKit

@[expose] public section

set_option maxRecDepth 16384

noncomputable section

namespace Cert.KernelIdeal.Hand

open Cert.KernelIdeal Cert.KernelIdeal.Gen Cert.Hand Idealize.ShloMosaic Idealize.SL.Sem

variable (x0 : Vec Ideal S256x7168 .bf16) (x1 : Vec Ideal S7168x1152 .fp8e4m3) (x2 : Vec Ideal S56x1152 .f32) (x3 : Vec Ideal S1x1152 .f32)

/-- The block of codes as one function of the block of `x`. -/
def codesBlk : Vec Ideal S256x7168 .fp8e4m3 := fun y => code kinv (fun k => x0 (ix2 (y 0) k)) (y 1)

/-- What one group stores is `codesBlk` under its rectangle. -/
theorem grpCodes_ld (g : Fin 56) (off : Fin 2 → ℕ) (h : off = ![0, 128 * g.val]) (inb) (x : S256x128.Idx) :
    grpCodes (View.ld x0 (Rect.unit (s := S256x7168) off S256x128.size inb)) x
      = codesBlk x0 ((Rect.unit (s := S256x7168) off S256x128.size inb).emb x) := by
  obtain ⟨r, l, rfl⟩ : ∃ (r : Fin 256) (l : Fin 128), x = ix2 r l := ⟨x 0, x 1, eq_ix2 x⟩
  have hy : (Rect.unit (s := S256x7168) off S256x128.size inb).emb (ix2 r l) = ix2 r (at128 g l) := by
    subst h
    refine funext fun a => Fin.ext ((Rect.idx_unit_val _ _ inb (ix2 r l) a).trans ?_)
    fin_cases a
    · show 0 + r.val = r.val
      omega
    · show 128 * g.val + l.val = g.val * 128 + l.val
      omega
  rw [hy, grpCodes_apply]
  simp only [ld_x x0 g off h inb]
  show _ = code kinv (fun k => x0 (ix2 r k)) (at128 g l)
  have hg : grpOf (at128 g l) = g := Fin.ext (by show (g.val * 128 + l.val) / 128 = g.val; omega)
  rw [code, hg]
  rfl

theorem out5_apply (r : Fin 256) (k : Fin 7168) :
    out0_5 x0 x1 x2 x3 (ix2 r k) = code kinv (fun k => x0 (ix2 r k)) k := by
  rw [out5_eq]
  refine View.canon_apply_of_pieces (codesBlk x0) _ ?_ (ix2 r k) (cover0_5 _ _ _ _ _ _ _ _ _ _ _ _ _ _ _ _ _ _ _ _ _ _ _ _ _ _ _ _ _ _ _ _ _ _ _ _ _ _ _ _ _ _ _ _ _ _ _ _ _ _ _ _ _ _ _ _ _)
  simp only [List.forall_mem_cons]
  exact ⟨grpCodes_ld x0 55 _ rfl _, grpCodes_ld x0 54 _ rfl _, grpCodes_ld x0 53 _ rfl _, grpCodes_ld x0 52 _ rfl _, grpCodes_ld x0 51 _ rfl _, grpCodes_ld x0 50 _ rfl _, grpCodes_ld x0 49 _ rfl _, grpCodes_ld x0 48 _ rfl _, grpCodes_ld x0 47 _ rfl _, grpCodes_ld x0 46 _ rfl _, grpCodes_ld x0 45 _ rfl _, grpCodes_ld x0 44 _ rfl _, grpCodes_ld x0 43 _ rfl _, grpCodes_ld x0 42 _ rfl _, grpCodes_ld x0 41 _ rfl _, grpCodes_ld x0 40 _ rfl _, grpCodes_ld x0 39 _ rfl _, grpCodes_ld x0 38 _ rfl _, grpCodes_ld x0 37 _ rfl _, grpCodes_ld x0 36 _ rfl _, grpCodes_ld x0 35 _ rfl _, grpCodes_ld x0 34 _ rfl _, grpCodes_ld x0 33 _ rfl _, grpCodes_ld x0 32 _ rfl _, grpCodes_ld x0 31 _ rfl _, grpCodes_ld x0 30 _ rfl _, grpCodes_ld x0 29 _ rfl _, grpCodes_ld x0 28 _ rfl _, grpCodes_ld x0 27 _ rfl _, grpCodes_ld x0 26 _ rfl _, grpCodes_ld x0 25 _ rfl _, grpCodes_ld x0 24 _ rfl _, grpCodes_ld x0 23 _ rfl _, grpCodes_ld x0 22 _ rfl _, grpCodes_ld x0 21 _ rfl _, grpCodes_ld x0 20 _ rfl _, grpCodes_ld x0 19 _ rfl _, grpCodes_ld x0 18 _ rfl _, grpCodes_ld x0 17 _ rfl _, grpCodes_ld x0 16 _ rfl _, grpCodes_ld x0 15 _ rfl _, grpCodes_ld x0 14 _ rfl _, grpCodes_ld x0 13 _ rfl _, grpCodes_ld x0 12 _ rfl _, grpCodes_ld x0 11 _ rfl _, grpCodes_ld x0 10 _ rfl _, grpCodes_ld x0 9 _ rfl _, grpCodes_ld x0 8 _ rfl _, grpCodes_ld x0 7 _ rfl _, grpCodes_ld x0 6 _ rfl _, grpCodes_ld x0 5 _ rfl _, grpCodes_ld x0 4 _ rfl _, grpCodes_ld x0 3 _ rfl _, grpCodes_ld x0 2 _ rfl _, grpCodes_ld x0 1 _ rfl _, grpCodes_ld x0 0 _ rfl _, fun _ h => absurd h List.not_mem_nil⟩

end Cert.KernelIdeal.Hand

end
-- ==== Proof.Steps.lean ====
/- The accumulator's 56 updates: each printed update is `grpStep` of the group's loads, so the output block is the nested chain of them plus the bias. -/
module

public import proofs.«01_k».proof.Proof.Group

@[expose] public section

noncomputable section

namespace Cert.KernelIdeal.Hand

open Cert.KernelIdeal Cert.KernelIdeal.Gen Idealize.ShloMosaic Idealize.SL.Sem

variable {F : FTy → Type} [FloatOps F]
variable (x0 : Vec F S256x7168 .bf16) (x1 : Vec F S7168x1152 .fp8e4m3) (x2 : Vec F S56x1152 .f32) (x3 : Vec F S1x1152 .f32)

variable (acc : FVec F S256x1152 .f32)

theorem step_0 : (k0_pay11 acc (k0_pay574 x0 x1 x2 x3) (k0_pay575 x0 x1 x2 x3) (k0_pay576 x0 x1 x2 x3) (k0_pay577 x0 x1 x2 x3) 8388608#32 (View.ld x1 r0_1) (View.ld x2 r0_2)) = grpStep acc (View.ld x0 r0_0) (View.ld x1 r0_1) (View.ld x2 r0_2) := rfl
theorem step_1 : (k0_pay21 acc (k0_pay578 x0 x1 x2 x3) (k0_pay579 x0 x1 x2 x3) (k0_pay581 x0 x1 x2 x3) (k0_pay582 x0 x1 x2 x3) (Scalar.ofBits .f32 0x00000000#32) (View.ld x1 r0_4) (View.ld x2 r0_5)) = grpStep acc (View.ld x0 r0_3) (View.ld x1 r0_4) (View.ld x2 r0_5) := rfl
theorem step_2 : (k0_pay33 acc (k0_pay588 x0 x1 x2 x3) (Scalar.ofBits .f32 0x43E00000#32) (k0_pay589 x0 x1 x2 x3) (View.ld x1 r0_7) (View.ld x2 r0_8)) = grpStep acc (View.ld x0 r0_6) (View.ld x1 r0_7) (View.ld x2 r0_8) := rfl
theorem step_3 : (k0_pay43 acc (k0_pay42 (k0_pay590 x0 x1 x2 x3) (k0_pay591 x0 x1 x2 x3) (k0_pay592 x0 x1 x2 x3) (k0_pay593 x0 x1 x2 x3) 67108864#32 (View.ld x1 r0_10)) (View.ld x2 r0_11)) = grpStep acc (View.ld x0 r0_9) (View.ld x1 r0_10) (View.ld x2 r0_11) := rfl
theorem step_4 : (k0_pay53 acc (k0_pay594 x0 x1 x2 x3) (k0_pay595 x0 x1 x2 x3) (k0_pay596 x0 x1 x2 x3) (k0_pay597 x0 x1 x2 x3) (k0_pay598 x0 x1 x2 x3) (View.ld x1 r0_13) (View.ld x2 r0_14)) = grpStep acc (View.ld x0 r0_12) (View.ld x1 r0_13) (View.ld x2 r0_14) := rfl
theorem step_5 : (k0_pay62 acc (k0_pay599 x0 x1 x2 x3) (k0_pay601 x0 x1 x2 x3) (k0_pay602 x0 x1 x2 x3) (k0_pay603 x0 x1 x2 x3) 2122317824#32 (View.ld x1 r0_16) (View.ld x2 r0_17)) = grpStep acc (View.ld x0 r0_15) (View.ld x1 r0_16) (View.ld x2 r0_17) := rfl
theorem step_6 : (k0_pay72 acc (k0_pay607 x0 x1 x2 x3) (k0_pay608 x0 x1 x2 x3) (View.ld x1 r0_19) (View.ld x2 r0_20)) = grpStep acc (View.ld x0 r0_18) (View.ld x1 r0_19) (View.ld x2 r0_20) := rfl
theorem step_7 : (k0_pay82 acc (k0_pay614 x0 x1 x2 x3) (k0_pay81 (k0_pay609 x0 x1 x2 x3) (k0_pay610 x0 x1 x2 x3) (k0_pay611 x0 x1 x2 x3) (k0_pay612 x0 x1 x2 x3) (k0_pay613 x0 x1 x2 x3)) (View.ld x1 r0_22) (View.ld x2 r0_23)) = grpStep acc (View.ld x0 r0_21) (View.ld x1 r0_22) (View.ld x2 r0_23) := rfl
theorem step_8 : (k0_pay93 acc (k0_pay615 x0 x1 x2 x3) (k0_pay616 x0 x1 x2 x3) (k0_pay617 x0 x1 x2 x3) (k0_pay618 x0 x1 x2 x3) (k0_pay619 x0 x1 x2 x3) (k0_pay620 x0 x1 x2 x3) (View.ld x1 r0_25) (View.ld x2 r0_26)) = grpStep acc (View.ld x0 r0_24) (View.ld x1 r0_25) (View.ld x2 r0_26) := rfl
theorem step_9 : (k0_pay100 acc (k0_pay621 x0 x1 x2 x3) (k0_pay622 x0 x1 x2 x3) (k0_pay623 x0 x1 x2 x3) 8388608#32 (View.ld x1 r0_28) (View.ld x2 r0_29)) = grpStep acc (View.ld x0 r0_27) (View.ld x1 r0_28) (View.ld x2 r0_29) := rfl
theorem step_10 : (k0_pay111 acc (k0_pay624 x0 x1 x2 x3) (k0_pay629 x0 x1 x2 x3) (k0_pay630 x0 x1 x2 x3) (k0_pay631 x0 x1 x2 x3) (Scalar.ofBits .f32 0x3F800000#32) (View.ld x1 r0_31) (View.ld x2 r0_32)) = grpStep acc (View.ld x0 r0_30) (View.ld x1 r0_31) (View.ld x2 r0_32) := rfl
theorem step_11 : (k0_pay122 acc (k0_pay637 x0 x1 x2 x3) (k0_pay638 x0 x1 x2 x3) (View.ld x1 r0_34) (View.ld x2 r0_35)) = grpStep acc (View.ld x0 r0_33) (View.ld x1 r0_34) (View.ld x2 r0_35) := rfl
theorem step_12 : (k0_pay132 acc (k0_pay131 (k0_pay639 x0 x1 x2 x3) (k0_pay640 x0 x1 x2 x3) (k0_pay641 x0 x1 x2 x3) (k0_pay642 x0 x1 x2 x3) 33554432#32 (View.ld x1 r0_37) (View.ld x2 r0_38))) = grpStep acc (View.ld x0 r0_36) (View.ld x1 r0_37) (View.ld x2 r0_38) := rfl
theorem step_13 : (k0_pay142 acc (k0_pay643 x0 x1 x2 x3) (k0_pay644 x0 x1 x2 x3) (k0_pay645 x0 x1 x2 x3) (k0_pay646 x0 x1 x2 x3) (k0_pay647 x0 x1 x2 x3) (View.ld x1 r0_40) (View.ld x2 r0_41)) = grpStep acc (View.ld x0 r0_39) (View.ld x1 r0_40) (View.ld x2 r0_41) := rfl
theorem step_14 : (k0_pay152 acc (k0_pay648 x0 x1 x2 x3) (k0_pay650 x0 x1 x2 x3) (k0_pay651 x0 x1 x2 x3) (k0_pay652 x0 x1 x2 x3) (View.ld x1 r0_43) (View.ld x2 r0_44)) = grpStep acc (View.ld x0 r0_42) (View.ld x1 r0_43) (View.ld x2 r0_44) := rfl
theorem step_15 : (k0_pay162 acc (k0_pay656 x0 x1 x2 x3) (k0_pay657 x0 x1 x2 x3) (View.ld x1 r0_46) (View.ld x2 r0_47)) = grpStep acc (View.ld x0 r0_45) (View.ld x1 r0_46) (View.ld x2 r0_47) := rfl
theorem step_16 : (k0_pay173 acc (k0_pay172 (k0_pay658 x0 x1 x2 x3) (k0_pay659 x0 x1 x2 x3) (k0_pay660 x0 x1 x2 x3) (k0_pay661 x0 x1 x2 x3) (k0_pay662 x0 x1 x2 x3) (View.ld x1 r0_49)) (View.ld x2 r0_50)) = grpStep acc (View.ld x0 r0_48) (View.ld x1 r0_49) (View.ld x2 r0_50) := rfl
theorem step_17 : (k0_pay184 acc (k0_pay663 x0 x1 x2 x3) (k0_pay664 x0 x1 x2 x3) (k0_pay665 x0 x1 x2 x3) (k0_pay666 x0 x1 x2 x3) (k0_pay667 x0 x1 x2 x3) (k0_pay668 x0 x1 x2 x3) (View.ld x1 r0_52) (View.ld x2 r0_53)) = grpStep acc (View.ld x0 r0_51) (View.ld x1 r0_52) (View.ld x2 r0_53) := rfl
theorem step_18 : (k0_pay193 acc (k0_pay669 x0 x1 x2 x3) (k0_pay670 x0 x1 x2 x3) (k0_pay671 x0 x1 x2 x3) (k0_pay672 x0 x1 x2 x3) (View.ld x1 r0_55) (View.ld x2 r0_56)) = grpStep acc (View.ld x0 r0_54) (View.ld x1 r0_55) (View.ld x2 r0_56) := rfl
theorem step_19 : (k0_pay204 acc (k0_pay677 x0 x1 x2 x3) (k0_pay678 x0 x1 x2 x3) (Scalar.ofBits .f32 0xC3E00000#32) (Scalar.ofBits .f32 0x43E00000#32) (View.ld x1 r0_58) (View.ld x2 r0_59)) = grpStep acc (View.ld x0 r0_57) (View.ld x1 r0_58) (View.ld x2 r0_59) := rfl
theorem step_20 : (k0_pay216 acc (k0_pay685 x0 x1 x2 x3) (k0_pay215 (k0_pay679 x0 x1 x2 x3) (k0_pay680 x0 x1 x2 x3) (k0_pay681 x0 x1 x2 x3) (k0_pay682 x0 x1 x2 x3) (k0_pay683 x0 x1 x2 x3) (k0_pay684 x0 x1 x2 x3) (View.ld x1 r0_61)) (View.ld x2 r0_62)) = grpStep acc (View.ld x0 r0_60) (View.ld x1 r0_61) (View.ld x2 r0_62) := rfl
theorem step_21 : (k0_pay225 acc (k0_pay686 x0 x1 x2 x3) (k0_pay687 x0 x1 x2 x3) (k0_pay688 x0 x1 x2 x3) (k0_pay689 x0 x1 x2 x3) 16777216#32 (View.ld x1 r0_64) (View.ld x2 r0_65)) = grpStep acc (View.ld x0 r0_63) (View.ld x1 r0_64) (View.ld x2 r0_65) := rfl
theorem step_22 : (k0_pay233 acc (k0_pay690 x0 x1 x2 x3) (k0_pay691 x0 x1 x2 x3) (k0_pay692 x0 x1 x2 x3) (k0_pay693 x0 x1 x2 x3) (View.ld x1 r0_67) (View.ld x2 r0_68)) = grpStep acc (View.ld x0 r0_66) (View.ld x1 r0_67) (View.ld x2 r0_68) := rfl
theorem step_23 : (k0_pay245 acc (k0_pay694 x0 x1 x2 x3) (k0_pay700 x0 x1 x2 x3) (k0_pay701 x0 x1 x2 x3) (View.ld x1 r0_70) (View.ld x2 r0_71)) = grpStep acc (View.ld x0 r0_69) (View.ld x1 r0_70) (View.ld x2 r0_71) := rfl
theorem step_24 : (k0_pay254 acc (k0_pay706 x0 x1 x2 x3) (k0_pay253 (k0_pay702 x0 x1 x2 x3) (k0_pay703 x0 x1 x2 x3) (k0_pay704 x0 x1 x2 x3) (k0_pay705 x0 x1 x2 x3) 134217728#32) (View.ld x1 r0_73) (View.ld x2 r0_74)) = grpStep acc (View.ld x0 r0_72) (View.ld x1 r0_73) (View.ld x2 r0_74) := rfl
theorem step_25 : (k0_pay264 acc (k0_pay707 x0 x1 x2 x3) (k0_pay708 x0 x1 x2 x3) (k0_pay709 x0 x1 x2 x3) (k0_pay710 x0 x1 x2 x3) (k0_pay711 x0 x1 x2 x3) (View.ld x1 r0_76) (View.ld x2 r0_77)) = grpStep acc (View.ld x0 r0_75) (View.ld x1 r0_76) (View.ld x2 r0_77) := rfl
theorem step_26 : (k0_pay275 acc (k0_pay712 x0 x1 x2 x3) (k0_pay713 x0 x1 x2 x3) (k0_pay714 x0 x1 x2 x3) (k0_pay715 x0 x1 x2 x3) (k0_pay716 x0 x1 x2 x3) (View.ld x1 r0_79) (View.ld x2 r0_80)) = grpStep acc (View.ld x0 r0_78) (View.ld x1 r0_79) (View.ld x2 r0_80) := rfl
theorem step_27 : (k0_pay287 acc (k0_pay717 x0 x1 x2 x3) (k0_pay720 x0 x1 x2 x3) (k0_pay721 x0 x1 x2 x3) (k0_pay722 x0 x1 x2 x3) (k0_pay723 x0 x1 x2 x3) (View.ld x1 r0_82) (View.ld x2 r0_83)) = grpStep acc (View.ld x0 r0_81) (View.ld x1 r0_82) (View.ld x2 r0_83) := rfl
theorem step_28 : (k0_pay297 acc (k0_pay728 x0 x1 x2 x3) (k0_pay729 x0 x1 x2 x3) (View.ld x1 r0_85) (View.ld x2 r0_86)) = grpStep acc (View.ld x0 r0_84) (View.ld x1 r0_85) (View.ld x2 r0_86) := rfl
theorem step_29 : (k0_pay310 acc (k0_pay308 (k0_pay730 x0 x1 x2 x3) (k0_pay731 x0 x1 x2 x3) (k0_pay732 x0 x1 x2 x3) (k0_pay733 x0 x1 x2 x3) (k0_pay734 x0 x1 x2 x3) (k0_pay735 x0 x1 x2 x3) (View.ld x1 r0_88)) (k0_pay309 (View.ld x2 r0_89))) = grpStep acc (View.ld x0 r0_87) (View.ld x1 r0_88) (View.ld x2 r0_89) := rfl
theorem step_30 : (k0_pay319 acc (k0_pay736 x0 x1 x2 x3) (k0_pay737 x0 x1 x2 x3) (k0_pay738 x0 x1 x2 x3) (k0_pay739 x0 x1 x2 x3) 8388608#32 (View.ld x1 r0_91) (View.ld x2 r0_92)) = grpStep acc (View.ld x0 r0_90) (View.ld x1 r0_91) (View.ld x2 r0_92) := rfl
theorem step_31 : (k0_pay329 acc (k0_pay740 x0 x1 x2 x3) (k0_pay741 x0 x1 x2 x3) (k0_pay743 x0 x1 x2 x3) (k0_pay744 x0 x1 x2 x3) (Scalar.ofBits .f32 0x00000000#32) (View.ld x1 r0_94) (View.ld x2 r0_95)) = grpStep acc (View.ld x0 r0_93) (View.ld x1 r0_94) (View.ld x2 r0_95) := rfl
theorem step_32 : (k0_pay341 acc (k0_pay750 x0 x1 x2 x3) (Scalar.ofBits .f32 0x43E00000#32) (k0_pay751 x0 x1 x2 x3) (View.ld x1 r0_97) (View.ld x2 r0_98)) = grpStep acc (View.ld x0 r0_96) (View.ld x1 r0_97) (View.ld x2 r0_98) := rfl
theorem step_33 : (k0_pay351 acc (k0_pay350 (k0_pay752 x0 x1 x2 x3) (k0_pay753 x0 x1 x2 x3) (k0_pay754 x0 x1 x2 x3) (k0_pay755 x0 x1 x2 x3) 67108864#32 (View.ld x1 r0_100)) (View.ld x2 r0_101)) = grpStep acc (View.ld x0 r0_99) (View.ld x1 r0_100) (View.ld x2 r0_101) := rfl
theorem step_34 : (k0_pay361 acc (k0_pay756 x0 x1 x2 x3) (k0_pay757 x0 x1 x2 x3) (k0_pay758 x0 x1 x2 x3) (k0_pay759 x0 x1 x2 x3) (k0_pay760 x0 x1 x2 x3) (View.ld x1 r0_103) (View.ld x2 r0_104)) = grpStep acc (View.ld x0 r0_102) (View.ld x1 r0_103) (View.ld x2 r0_104) := rfl
theorem step_35 : (k0_pay370 acc (k0_pay761 x0 x1 x2 x3) (k0_pay763 x0 x1 x2 x3) (k0_pay764 x0 x1 x2 x3) (k0_pay765 x0 x1 x2 x3) 2122317824#32 (View.ld x1 r0_106) (View.ld x2 r0_107)) = grpStep acc (View.ld x0 r0_105) (View.ld x1 r0_106) (View.ld x2 r0_107) := rfl
theorem step_36 : (k0_pay380 acc (k0_pay769 x0 x1 x2 x3) (k0_pay770 x0 x1 x2 x3) (View.ld x1 r0_109) (View.ld x2 r0_110)) = grpStep acc (View.ld x0 r0_108) (View.ld x1 r0_109) (View.ld x2 r0_110) := rfl
theorem step_37 : (k0_pay390 acc (k0_pay776 x0 x1 x2 x3) (k0_pay389 (k0_pay771 x0 x1 x2 x3) (k0_pay772 x0 x1 x2 x3) (k0_pay773 x0 x1 x2 x3) (k0_pay774 x0 x1 x2 x3) (k0_pay775 x0 x1 x2 x3)) (View.ld x1 r0_112) (View.ld x2 r0_113)) = grpStep acc (View.ld x0 r0_111) (View.ld x1 r0_112) (View.ld x2 r0_113) := rfl
theorem step_38 : (k0_pay401 acc (k0_pay777 x0 x1 x2 x3) (k0_pay778 x0 x1 x2 x3) (k0_pay779 x0 x1 x2 x3) (k0_pay780 x0 x1 x2 x3) (k0_pay781 x0 x1 x2 x3) (k0_pay782 x0 x1 x2 x3) (View.ld x1 r0_115) (View.ld x2 r0_116)) = grpStep acc (View.ld x0 r0_114) (View.ld x1 r0_115) (View.ld x2 r0_116) := rfl
theorem step_39 : (k0_pay408 acc (k0_pay783 x0 x1 x2 x3) (k0_pay784 x0 x1 x2 x3) (k0_pay785 x0 x1 x2 x3) 8388608#32 (View.ld x1 r0_118) (View.ld x2 r0_119)) = grpStep acc (View.ld x0 r0_117) (View.ld x1 r0_118) (View.ld x2 r0_119) := rfl
theorem step_40 : (k0_pay419 acc (k0_pay786 x0 x1 x2 x3) (k0_pay791 x0 x1 x2 x3) (k0_pay792 x0 x1 x2 x3) (k0_pay793 x0 x1 x2 x3) (Scalar.ofBits .f32 0x3F800000#32) (View.ld x1 r0_121) (View.ld x2 r0_122)) = grpStep acc (View.ld x0 r0_120) (View.ld x1 r0_121) (View.ld x2 r0_122) := rfl
theorem step_41 : (k0_pay430 acc (k0_pay799 x0 x1 x2 x3) (k0_pay800 x0 x1 x2 x3) (View.ld x1 r0_124) (View.ld x2 r0_125)) = grpStep acc (View.ld x0 r0_123) (View.ld x1 r0_124) (View.ld x2 r0_125) := rfl
theorem step_42 : (k0_pay440 acc (k0_pay439 (k0_pay801 x0 x1 x2 x3) (k0_pay802 x0 x1 x2 x3) (k0_pay803 x0 x1 x2 x3) (k0_pay804 x0 x1 x2 x3) 33554432#32 (View.ld x1 r0_127) (View.ld x2 r0_128))) = grpStep acc (View.ld x0 r0_126) (View.ld x1 r0_127) (View.ld x2 r0_128) := rfl
theorem step_43 : (k0_pay450 acc (k0_pay805 x0 x1 x2 x3) (k0_pay806 x0 x1 x2 x3) (k0_pay807 x0 x1 x2 x3) (k0_pay808 x0 x1 x2 x3) (k0_pay809 x0 x1 x2 x3) (View.ld x1 r0_130) (View.ld x2 r0_131)) = grpStep acc (View.ld x0 r0_129) (View.ld x1 r0_130) (View.ld x2 r0_131) := rfl
theorem step_44 : (k0_pay460 acc (k0_pay810 x0 x1 x2 x3) (k0_pay812 x0 x1 x2 x3) (k0_pay813 x0 x1 x2 x3) (k0_pay814 x0 x1 x2 x3) (View.ld x1 r0_133) (View.ld x2 r0_134)) = grpStep acc (View.ld x0 r0_132) (View.ld x1 r0_133) (View.ld x2 r0_134) := rfl
theorem step_45 : (k0_pay470 acc (k0_pay818 x0 x1 x2 x3) (k0_pay819 x0 x1 x2 x3) (View.ld x1 r0_136) (View.ld x2 r0_137)) = grpStep acc (View.ld x0 r0_135) (View.ld x1 r0_136) (View.ld x2 r0_137) := rfl
theorem step_46 : (k0_pay481 acc (k0_pay480 (k0_pay820 x0 x1 x2 x3) (k0_pay821 x0 x1 x2 x3) (k0_pay822 x0 x1 x2 x3) (k0_pay823 x0 x1 x2 x3) (k0_pay824 x0 x1 x2 x3) (View.ld x1 r0_139)) (View.ld x2 r0_140)) = grpStep acc (View.ld x0 r0_138) (View.ld x1 r0_139) (View.ld x2 r0_140) := rfl
theorem step_47 : (k0_pay492 acc (k0_pay825 x0 x1 x2 x3) (k0_pay826 x0 x1 x2 x3) (k0_pay827 x0 x1 x2 x3) (k0_pay828 x0 x1 x2 x3) (k0_pay829 x0 x1 x2 x3) (k0_pay830 x0 x1 x2 x3) (View.ld x1 r0_142) (View.ld x2 r0_143)) = grpStep acc (View.ld x0 r0_141) (View.ld x1 r0_142) (View.ld x2 r0_143) := rfl
theorem step_48 : (k0_pay501 acc (k0_pay831 x0 x1 x2 x3) (k0_pay832 x0 x1 x2 x3) (k0_pay833 x0 x1 x2 x3) (k0_pay834 x0 x1 x2 x3) (View.ld x1 r0_145) (View.ld x2 r0_146)) = grpStep acc (View.ld x0 r0_144) (View.ld x1 r0_145) (View.ld x2 r0_146) := rfl
theorem step_49 : (k0_pay512 acc (k0_pay839 x0 x1 x2 x3) (k0_pay840 x0 x1 x2 x3) (Scalar.ofBits .f32 0xC3E00000#32) (Scalar.ofBits .f32 0x43E00000#32) (View.ld x1 r0_148) (View.ld x2 r0_149)) = grpStep acc (View.ld x0 r0_147) (View.ld x1 r0_148) (View.ld x2 r0_149) := rfl
theorem step_50 : (k0_pay524 acc (k0_pay847 x0 x1 x2 x3) (k0_pay523 (k0_pay841 x0 x1 x2 x3) (k0_pay842 x0 x1 x2 x3) (k0_pay843 x0 x1 x2 x3) (k0_pay844 x0 x1 x2 x3) (k0_pay845 x0 x1 x2 x3) (k0_pay846 x0 x1 x2 x3) (View.ld x1 r0_151)) (View.ld x2 r0_152)) = grpStep acc (View.ld x0 r0_150) (View.ld x1 r0_151) (View.ld x2 r0_152) := rfl
theorem step_51 : (k0_pay533 acc (k0_pay848 x0 x1 x2 x3) (k0_pay849 x0 x1 x2 x3) (k0_pay850 x0 x1 x2 x3) (k0_pay851 x0 x1 x2 x3) 16777216#32 (View.ld x1 r0_154) (View.ld x2 r0_155)) = grpStep acc (View.ld x0 r0_153) (View.ld x1 r0_154) (View.ld x2 r0_155) := rfl
theorem step_52 : (k0_pay541 acc (k0_pay852 x0 x1 x2 x3) (k0_pay853 x0 x1 x2 x3) (k0_pay854 x0 x1 x2 x3) (k0_pay855 x0 x1 x2 x3) (View.ld x1 r0_157) (View.ld x2 r0_158)) = grpStep acc (View.ld x0 r0_156) (View.ld x1 r0_157) (View.ld x2 r0_158) := rfl
theorem step_53 : (k0_pay553 acc (k0_pay856 x0 x1 x2 x3) (k0_pay862 x0 x1 x2 x3) (k0_pay863 x0 x1 x2 x3) (View.ld x1 r0_160) (View.ld x2 r0_161)) = grpStep acc (View.ld x0 r0_159) (View.ld x1 r0_160) (View.ld x2 r0_161) := rfl
theorem step_54 : (k0_pay562 acc (k0_pay868 x0 x1 x2 x3) (k0_pay561 (k0_pay864 x0 x1 x2 x3) (k0_pay865 x0 x1 x2 x3) (k0_pay866 x0 x1 x2 x3) (k0_pay867 x0 x1 x2 x3) 134217728#32) (View.ld x1 r0_163) (View.ld x2 r0_164)) = grpStep acc (View.ld x0 r0_162) (View.ld x1 r0_163) (View.ld x2 r0_164) := rfl
theorem step_55 : (k0_pay572 acc (k0_pay869 x0 x1 x2 x3) (k0_pay870 x0 x1 x2 x3) (k0_pay871 x0 x1 x2 x3) (k0_pay872 x0 x1 x2 x3) (k0_pay873 x0 x1 x2 x3) (View.ld x1 r0_166) (View.ld x2 r0_167)) = grpStep acc (View.ld x0 r0_165) (View.ld x1 r0_166) (View.ld x2 r0_167) := rfl

/-- The output block after the body. -/
theorem out4_eq : out0_4 x0 x1 x2 x3 = View.canon [⟨r0_170, k0_pay1
    (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (grpStep (k0_pay2 (F := F)) (View.ld x0 r0_0) (View.ld x1 r0_1) (View.ld x2 r0_2)) (View.ld x0 r0_3) (View.ld x1 r0_4) (View.ld x2 r0_5)) (View.ld x0 r0_6) (View.ld x1 r0_7) (View.ld x2 r0_8)) (View.ld x0 r0_9) (View.ld x1 r0_10) (View.ld x2 r0_11)) (View.ld x0 r0_12) (View.ld x1 r0_13) (View.ld x2 r0_14)) (View.ld x0 r0_15) (View.ld x1 r0_16) (View.ld x2 r0_17)) (View.ld x0 r0_18) (View.ld x1 r0_19) (View.ld x2 r0_20)) (View.ld x0 r0_21) (View.ld x1 r0_22) (View.ld x2 r0_23)) (View.ld x0 r0_24) (View.ld x1 r0_25) (View.ld x2 r0_26)) (View.ld x0 r0_27) (View.ld x1 r0_28) (View.ld x2 r0_29)) (View.ld x0 r0_30) (View.ld x1 r0_31) (View.ld x2 r0_32)) (View.ld x0 r0_33) (View.ld x1 r0_34) (View.ld x2 r0_35)) (View.ld x0 r0_36) (View.ld x1 r0_37) (View.ld x2 r0_38)) (View.ld x0 r0_39) (View.ld x1 r0_40) (View.ld x2 r0_41)) (View.ld x0 r0_42) (View.ld x1 r0_43) (View.ld x2 r0_44)) (View.ld x0 r0_45) (View.ld x1 r0_46) (View.ld x2 r0_47)) (View.ld x0 r0_48) (View.ld x1 r0_49) (View.ld x2 r0_50)) (View.ld x0 r0_51) (View.ld x1 r0_52) (View.ld x2 r0_53)) (View.ld x0 r0_54) (View.ld x1 r0_55) (View.ld x2 r0_56)) (View.ld x0 r0_57) (View.ld x1 r0_58) (View.ld x2 r0_59)) (View.ld x0 r0_60) (View.ld x1 r0_61) (View.ld x2 r0_62)) (View.ld x0 r0_63) (View.ld x1 r0_64) (View.ld x2 r0_65)) (View.ld x0 r0_66) (View.ld x1 r0_67) (View.ld x2 r0_68)) (View.ld x0 r0_69) (View.ld x1 r0_70) (View.ld x2 r0_71)) (View.ld x0 r0_72) (View.ld x1 r0_73) (View.ld x2 r0_74)) (View.ld x0 r0_75) (View.ld x1 r0_76) (View.ld x2 r0_77)) (View.ld x0 r0_78) (View.ld x1 r0_79) (View.ld x2 r0_80)) (View.ld x0 r0_81) (View.ld x1 r0_82) (View.ld x2 r0_83)) (View.ld x0 r0_84) (View.ld x1 r0_85) (View.ld x2 r0_86)) (View.ld x0 r0_87) (View.ld x1 r0_88) (View.ld x2 r0_89)) (View.ld x0 r0_90) (View.ld x1 r0_91) (View.ld x2 r0_92)) (View.ld x0 r0_93) (View.ld x1 r0_94) (View.ld x2 r0_95)) (View.ld x0 r0_96) (View.ld x1 r0_97) (View.ld x2 r0_98)) (View.ld x0 r0_99) (View.ld x1 r0_100) (View.ld x2 r0_101)) (View.ld x0 r0_102) (View.ld x1 r0_103) (View.ld x2 r0_104)) (View.ld x0 r0_105) (View.ld x1 r0_106) (View.ld x2 r0_107)) (View.ld x0 r0_108) (View.ld x1 r0_109) (View.ld x2 r0_110)) (View.ld x0 r0_111) (View.ld x1 r0_112) (View.ld x2 r0_113)) (View.ld x0 r0_114) (View.ld x1 r0_115) (View.ld x2 r0_116)) (View.ld x0 r0_117) (View.ld x1 r0_118) (View.ld x2 r0_119)) (View.ld x0 r0_120) (View.ld x1 r0_121) (View.ld x2 r0_122)) (View.ld x0 r0_123) (View.ld x1 r0_124) (View.ld x2 r0_125)) (View.ld x0 r0_126) (View.ld x1 r0_127) (View.ld x2 r0_128)) (View.ld x0 r0_129) (View.ld x1 r0_130) (View.ld x2 r0_131)) (View.ld x0 r0_132) (View.ld x1 r0_133) (View.ld x2 r0_134)) (View.ld x0 r0_135) (View.ld x1 r0_136) (View.ld x2 r0_137)) (View.ld x0 r0_138) (View.ld x1 r0_139) (View.ld x2 r0_140)) (View.ld x0 r0_141) (View.ld x1 r0_142) (View.ld x2 r0_143)) (View.ld x0 r0_144) (View.ld x1 r0_145) (View.ld x2 r0_146)) (View.ld x0 r0_147) (View.ld x1 r0_148) (View.ld x2 r0_149)) (View.ld x0 r0_150) (View.ld x1 r0_151) (View.ld x2 r0_152)) (View.ld x0 r0_153) (View.ld x1 r0_154) (View.ld x2 r0_155)) (View.ld x0 r0_156) (View.ld x1 r0_157) (View.ld x2 r0_158)) (View.ld x0 r0_159) (View.ld x1 r0_160) (View.ld x2 r0_161)) (View.ld x0 r0_162) (View.ld x1 r0_163) (View.ld x2 r0_164)) (View.ld x0 r0_165) (View.ld x1 r0_166) (View.ld x2 r0_167))
    (View.ld x3 r0_169)⟩] := by
  unfold out0_4
  rw [step_55 x0 x1 x2 x3, step_54 x0 x1 x2 x3, step_53 x0 x1 x2 x3, step_52 x0 x1 x2 x3, step_51 x0 x1 x2 x3, step_50 x0 x1 x2 x3, step_49 x0 x1 x2 x3, step_48 x0 x1 x2 x3, step_47 x0 x1 x2 x3, step_46 x0 x1 x2 x3, step_45 x0 x1 x2 x3, step_44 x0 x1 x2 x3, step_43 x0 x1 x2 x3, step_42 x0 x1 x2 x3, step_41 x0 x1 x2 x3, step_40 x0 x1 x2 x3, step_39 x0 x1 x2 x3, step_38 x0 x1 x2 x3, step_37 x0 x1 x2 x3, step_36 x0 x1 x2 x3, step_35 x0 x1 x2 x3, step_34 x0 x1 x2 x3, step_33 x0 x1 x2 x3, step_32 x0 x1 x2 x3, step_31 x0 x1 x2 x3, step_30 x0 x1 x2 x3, step_29 x0 x1 x2 x3, step_28 x0 x1 x2 x3, step_27 x0 x1 x2 x3, step_26 x0 x1 x2 x3, step_25 x0 x1 x2 x3, step_24 x0 x1 x2 x3, step_23 x0 x1 x2 x3, step_22 x0 x1 x2 x3, step_21 x0 x1 x2 x3, step_20 x0 x1 x2 x3, step_19 x0 x1 x2 x3, step_18 x0 x1 x2 x3, step_17 x0 x1 x2 x3, step_16 x0 x1 x2 x3, step_15 x0 x1 x2 x3, step_14 x0 x1 x2 x3, step_13 x0 x1 x2 x3, step_12 x0 x1 x2 x3, step_11 x0 x1 x2 x3, step_10 x0 x1 x2 x3, step_9 x0 x1 x2 x3, step_8 x0 x1 x2 x3, step_7 x0 x1 x2 x3, step_6 x0 x1 x2 x3, step_5 x0 x1 x2 x3, step_4 x0 x1 x2 x3, step_3 x0 x1 x2 x3, step_2 x0 x1 x2 x3, step_1 x0 x1 x2 x3, step_0 x0 x1 x2 x3]

end Cert.KernelIdeal.Hand

end
-- ==== Proof.StepsAt.lean ====
/- The kernel's block of `y` at an index: the accumulator after `n` groups is the sum of their parts. -/
module

public import proofs.«01_k».proof.Proof.Steps
public import proofs.«01_k».proof.Proof.Loads
public import Idealize.ShloMosaic.Lib.Pipeline.ValueKit

@[expose] public section

set_option maxRecDepth 16384

noncomputable section

namespace Cert.KernelIdeal.Hand

open Cert.KernelIdeal Cert.KernelIdeal.Gen Cert.Hand Idealize.ShloMosaic Idealize.SL.Sem

variable (x0 : Vec Ideal S256x7168 .bf16) (x1 : Vec Ideal S7168x1152 .fp8e4m3) (x2 : Vec Ideal S56x1152 .f32) (x3 : Vec Ideal S1x1152 .f32)

/-- The accumulator holds the parts of the first `n` groups. -/
def Holds (n : ℕ) (acc : FVec Ideal S256x1152 .f32) : Prop :=
  ∀ (r : Fin 256) (c : Fin 1152), acc (ix2 r c) = ∑ g : Fin 56, if g.val < n then
    part kscale kinv (grp (fun k => x0 (ix2 r k)) g) (grp (fun k => x1 (ix2 k c)) g) (x2 (ix2 g c)) else 0

theorem holds_zero : Holds x0 x1 x2 0 (k0_pay2 (F := Ideal)) := by
  intro r c
  simp only [Nat.not_lt_zero, if_false, Finset.sum_const_zero]
  pointwise [k0_pay2]

theorem holds_step (g : Fin 56) {acc : FVec Ideal S256x1152 .f32} (h : Holds x0 x1 x2 g.val acc) (ox ow os : Fin 2 → ℕ)
    (hx : ox = ![0, 128 * g.val]) (hw : ow = ![128 * g.val, 0]) (hs : os = ![g.val, 0]) (ix iw is) :
    Holds x0 x1 x2 (g.val + 1) (grpStep acc (View.ld x0 (Rect.unit (s := S256x7168) ox S256x128.size ix))
      (View.ld x1 (Rect.unit (s := S7168x1152) ow S128x1152.size iw)) (View.ld x2 (Rect.unit (s := S56x1152) os S1x1152.size is))) := by
  intro r c
  rw [grpStep_apply, h r c]
  simp only [ld_x x0 g ox hx ix, ld_w x1 g ow hw iw, ld_s x2 g os hs is]
  rw [← Finset.sum_erase_add _ _ (Finset.mem_univ g), ← Finset.sum_erase_add (a := g) Finset.univ _ (Finset.mem_univ g)]
  rw [if_neg (lt_irrefl _), if_pos (Nat.lt_succ_self _), add_zero]
  congr 1
  refine Finset.sum_congr rfl fun g' hg' => ?_
  have hne : g'.val ≠ g.val := fun e => (Finset.mem_erase.mp hg').1 (Fin.ext e)
  by_cases hlt : g'.val < g.val
  · rw [if_pos hlt, if_pos (by omega)]
  · rw [if_neg hlt, if_neg (by omega)]

/-- The last store, from the accumulator and the bias. -/
theorem store_apply (acc : FVec Ideal S256x1152 .f32) (b : Vec Ideal S1x1152 .f32) (r : Fin 256) (c : Fin 1152) :
    k0_pay1 acc b (ix2 r c) = acc (ix2 r c) + b (ix2 0 c) := by
  pointwise [k0_pay1]

theorem out4_apply (r : Fin 256) (c : Fin 1152) : out0_4 x0 x1 x2 x3 (ix2 r c) =
    yval kscale kinv (fun k => x0 (ix2 r k)) (fun k => x1 (ix2 k c)) (fun g => x2 (ix2 g c)) (x3 (ix2 0 c)) := by
  rw [out4_eq, View.canon_unit_zero (by funext a; fin_cases a <;> rfl), store_apply,
    View.ld_unit_zero (by funext a; fin_cases a <;> rfl)]
  have h0 := holds_zero x0 x1 x2
  have h1 := holds_step x0 x1 x2 0 h0 _ _ _ rfl rfl rfl inb_S256x7168_S256x128_0_0 inb_S7168x1152_S128x1152_0_0 inb_S56x1152_S1x1152_0_0
  clear h0
  have h2 := holds_step x0 x1 x2 1 h1 _ _ _ rfl rfl rfl inb_S256x7168_S256x128_0_128 inb_S7168x1152_S128x1152_128_0 inb_S56x1152_S1x1152_1_0
  clear h1
  have h3 := holds_step x0 x1 x2 2 h2 _ _ _ rfl rfl rfl inb_S256x7168_S256x128_0_256 inb_S7168x1152_S128x1152_256_0 inb_S56x1152_S1x1152_2_0
  clear h2
  have h4 := holds_step x0 x1 x2 3 h3 _ _ _ rfl rfl rfl inb_S256x7168_S256x128_0_384 inb_S7168x1152_S128x1152_384_0 inb_S56x1152_S1x1152_3_0
  clear h3
  have h5 := holds_step x0 x1 x2 4 h4 _ _ _ rfl rfl rfl inb_S256x7168_S256x128_0_512 inb_S7168x1152_S128x1152_512_0 inb_S56x1152_S1x1152_4_0
  clear h4
  have h6 := holds_step x0 x1 x2 5 h5 _ _ _ rfl rfl rfl inb_S256x7168_S256x128_0_640 inb_S7168x1152_S128x1152_640_0 inb_S56x1152_S1x1152_5_0
  clear h5
  have h7 := holds_step x0 x1 x2 6 h6 _ _ _ rfl rfl rfl inb_S256x7168_S256x128_0_768 inb_S7168x1152_S128x1152_768_0 inb_S56x1152_S1x1152_6_0
  clear h6
  have h8 := holds_step x0 x1 x2 7 h7 _ _ _ rfl rfl rfl inb_S256x7168_S256x128_0_896 inb_S7168x1152_S128x1152_896_0 inb_S56x1152_S1x1152_7_0
  clear h7
  have h9 := holds_step x0 x1 x2 8 h8 _ _ _ rfl rfl rfl inb_S256x7168_S256x128_0_1024 inb_S7168x1152_S128x1152_1024_0 inb_S56x1152_S1x1152_8_0
  clear h8
  have h10 := holds_step x0 x1 x2 9 h9 _ _ _ rfl rfl rfl inb_S256x7168_S256x128_0_1152 inb_S7168x1152_S128x1152_1152_0 inb_S56x1152_S1x1152_9_0
  clear h9
  have h11 := holds_step x0 x1 x2 10 h10 _ _ _ rfl rfl rfl inb_S256x7168_S256x128_0_1280 inb_S7168x1152_S128x1152_1280_0 inb_S56x1152_S1x1152_10_0
  clear h10
  have h12 := holds_step x0 x1 x2 11 h11 _ _ _ rfl rfl rfl inb_S256x7168_S256x128_0_1408 inb_S7168x1152_S128x1152_1408_0 inb_S56x1152_S1x1152_11_0
  clear h11
  have h13 := holds_step x0 x1 x2 12 h12 _ _ _ rfl rfl rfl inb_S256x7168_S256x128_0_1536 inb_S7168x1152_S128x1152_1536_0 inb_S56x1152_S1x1152_12_0
  clear h12
  have h14 := holds_step x0 x1 x2 13 h13 _ _ _ rfl rfl rfl inb_S256x7168_S256x128_0_1664 inb_S7168x1152_S128x1152_1664_0 inb_S56x1152_S1x1152_13_0
  clear h13
  have h15 := holds_step x0 x1 x2 14 h14 _ _ _ rfl rfl rfl inb_S256x7168_S256x128_0_1792 inb_S7168x1152_S128x1152_1792_0 inb_S56x1152_S1x1152_14_0
  clear h14
  have h16 := holds_step x0 x1 x2 15 h15 _ _ _ rfl rfl rfl inb_S256x7168_S256x128_0_1920 inb_S7168x1152_S128x1152_1920_0 inb_S56x1152_S1x1152_15_0
  clear h15
  have h17 := holds_step x0 x1 x2 16 h16 _ _ _ rfl rfl rfl inb_S256x7168_S256x128_0_2048 inb_S7168x1152_S128x1152_2048_0 inb_S56x1152_S1x1152_16_0
  clear h16
  have h18 := holds_step x0 x1 x2 17 h17 _ _ _ rfl rfl rfl inb_S256x7168_S256x128_0_2176 inb_S7168x1152_S128x1152_2176_0 inb_S56x1152_S1x1152_17_0
  clear h17
  have h19 := holds_step x0 x1 x2 18 h18 _ _ _ rfl rfl rfl inb_S256x7168_S256x128_0_2304 inb_S7168x1152_S128x1152_2304_0 inb_S56x1152_S1x1152_18_0
  clear h18
  have h20 := holds_step x0 x1 x2 19 h19 _ _ _ rfl rfl rfl inb_S256x7168_S256x128_0_2432 inb_S7168x1152_S128x1152_2432_0 inb_S56x1152_S1x1152_19_0
  clear h19
  have h21 := holds_step x0 x1 x2 20 h20 _ _ _ rfl rfl rfl inb_S256x7168_S256x128_0_2560 inb_S7168x1152_S128x1152_2560_0 inb_S56x1152_S1x1152_20_0
  clear h20
  have h22 := holds_step x0 x1 x2 21 h21 _ _ _ rfl rfl rfl inb_S256x7168_S256x128_0_2688 inb_S7168x1152_S128x1152_2688_0 inb_S56x1152_S1x1152_21_0
  clear h21
  have h23 := holds_step x0 x1 x2 22 h22 _ _ _ rfl rfl rfl inb_S256x7168_S256x128_0_2816 inb_S7168x1152_S128x1152_2816_0 inb_S56x1152_S1x1152_22_0
  clear h22
  have h24 := holds_step x0 x1 x2 23 h23 _ _ _ rfl rfl rfl inb_S256x7168_S256x128_0_2944 inb_S7168x1152_S128x1152_2944_0 inb_S56x1152_S1x1152_23_0
  clear h23
  have h25 := holds_step x0 x1 x2 24 h24 _ _ _ rfl rfl rfl inb_S256x7168_S256x128_0_3072 inb_S7168x1152_S128x1152_3072_0 inb_S56x1152_S1x1152_24_0
  clear h24
  have h26 := holds_step x0 x1 x2 25 h25 _ _ _ rfl rfl rfl inb_S256x7168_S256x128_0_3200 inb_S7168x1152_S128x1152_3200_0 inb_S56x1152_S1x1152_25_0
  clear h25
  have h27 := holds_step x0 x1 x2 26 h26 _ _ _ rfl rfl rfl inb_S256x7168_S256x128_0_3328 inb_S7168x1152_S128x1152_3328_0 inb_S56x1152_S1x1152_26_0
  clear h26
  have h28 := holds_step x0 x1 x2 27 h27 _ _ _ rfl rfl rfl inb_S256x7168_S256x128_0_3456 inb_S7168x1152_S128x1152_3456_0 inb_S56x1152_S1x1152_27_0
  clear h27
  have h29 := holds_step x0 x1 x2 28 h28 _ _ _ rfl rfl rfl inb_S256x7168_S256x128_0_3584 inb_S7168x1152_S128x1152_3584_0 inb_S56x1152_S1x1152_28_0
  clear h28
  have h30 := holds_step x0 x1 x2 29 h29 _ _ _ rfl rfl rfl inb_S256x7168_S256x128_0_3712 inb_S7168x1152_S128x1152_3712_0 inb_S56x1152_S1x1152_29_0
  clear h29
  have h31 := holds_step x0 x1 x2 30 h30 _ _ _ rfl rfl rfl inb_S256x7168_S256x128_0_3840 inb_S7168x1152_S128x1152_3840_0 inb_S56x1152_S1x1152_30_0
  clear h30
  have h32 := holds_step x0 x1 x2 31 h31 _ _ _ rfl rfl rfl inb_S256x7168_S256x128_0_3968 inb_S7168x1152_S128x1152_3968_0 inb_S56x1152_S1x1152_31_0
  clear h31
  have h33 := holds_step x0 x1 x2 32 h32 _ _ _ rfl rfl rfl inb_S256x7168_S256x128_0_4096 inb_S7168x1152_S128x1152_4096_0 inb_S56x1152_S1x1152_32_0
  clear h32
  have h34 := holds_step x0 x1 x2 33 h33 _ _ _ rfl rfl rfl inb_S256x7168_S256x128_0_4224 inb_S7168x1152_S128x1152_4224_0 inb_S56x1152_S1x1152_33_0
  clear h33
  have h35 := holds_step x0 x1 x2 34 h34 _ _ _ rfl rfl rfl inb_S256x7168_S256x128_0_4352 inb_S7168x1152_S128x1152_4352_0 inb_S56x1152_S1x1152_34_0
  clear h34
  have h36 := holds_step x0 x1 x2 35 h35 _ _ _ rfl rfl rfl inb_S256x7168_S256x128_0_4480 inb_S7168x1152_S128x1152_4480_0 inb_S56x1152_S1x1152_35_0
  clear h35
  have h37 := holds_step x0 x1 x2 36 h36 _ _ _ rfl rfl rfl inb_S256x7168_S256x128_0_4608 inb_S7168x1152_S128x1152_4608_0 inb_S56x1152_S1x1152_36_0
  clear h36
  have h38 := holds_step x0 x1 x2 37 h37 _ _ _ rfl rfl rfl inb_S256x7168_S256x128_0_4736 inb_S7168x1152_S128x1152_4736_0 inb_S56x1152_S1x1152_37_0
  clear h37
  have h39 := holds_step x0 x1 x2 38 h38 _ _ _ rfl rfl rfl inb_S256x7168_S256x128_0_4864 inb_S7168x1152_S128x1152_4864_0 inb_S56x1152_S1x1152_38_0
  clear h38
  have h40 := holds_step x0 x1 x2 39 h39 _ _ _ rfl rfl rfl inb_S256x7168_S256x128_0_4992 inb_S7168x1152_S128x1152_4992_0 inb_S56x1152_S1x1152_39_0
  clear h39
  have h41 := holds_step x0 x1 x2 40 h40 _ _ _ rfl rfl rfl inb_S256x7168_S256x128_0_5120 inb_S7168x1152_S128x1152_5120_0 inb_S56x1152_S1x1152_40_0
  clear h40
  have h42 := holds_step x0 x1 x2 41 h41 _ _ _ rfl rfl rfl inb_S256x7168_S256x128_0_5248 inb_S7168x1152_S128x1152_5248_0 inb_S56x1152_S1x1152_41_0
  clear h41
  have h43 := holds_step x0 x1 x2 42 h42 _ _ _ rfl rfl rfl inb_S256x7168_S256x128_0_5376 inb_S7168x1152_S128x1152_5376_0 inb_S56x1152_S1x1152_42_0
  clear h42
  have h44 := holds_step x0 x1 x2 43 h43 _ _ _ rfl rfl rfl inb_S256x7168_S256x128_0_5504 inb_S7168x1152_S128x1152_5504_0 inb_S56x1152_S1x1152_43_0
  clear h43
  have h45 := holds_step x0 x1 x2 44 h44 _ _ _ rfl rfl rfl inb_S256x7168_S256x128_0_5632 inb_S7168x1152_S128x1152_5632_0 inb_S56x1152_S1x1152_44_0
  clear h44
  have h46 := holds_step x0 x1 x2 45 h45 _ _ _ rfl rfl rfl inb_S256x7168_S256x128_0_5760 inb_S7168x1152_S128x1152_5760_0 inb_S56x1152_S1x1152_45_0
  clear h45
  have h47 := holds_step x0 x1 x2 46 h46 _ _ _ rfl rfl rfl inb_S256x7168_S256x128_0_5888 inb_S7168x1152_S128x1152_5888_0 inb_S56x1152_S1x1152_46_0
  clear h46
  have h48 := holds_step x0 x1 x2 47 h47 _ _ _ rfl rfl rfl inb_S256x7168_S256x128_0_6016 inb_S7168x1152_S128x1152_6016_0 inb_S56x1152_S1x1152_47_0
  clear h47
  have h49 := holds_step x0 x1 x2 48 h48 _ _ _ rfl rfl rfl inb_S256x7168_S256x128_0_6144 inb_S7168x1152_S128x1152_6144_0 inb_S56x1152_S1x1152_48_0
  clear h48
  have h50 := holds_step x0 x1 x2 49 h49 _ _ _ rfl rfl rfl inb_S256x7168_S256x128_0_6272 inb_S7168x1152_S128x1152_6272_0 inb_S56x1152_S1x1152_49_0
  clear h49
  have h51 := holds_step x0 x1 x2 50 h50 _ _ _ rfl rfl rfl inb_S256x7168_S256x128_0_6400 inb_S7168x1152_S128x1152_6400_0 inb_S56x1152_S1x1152_50_0
  clear h50
  have h52 := holds_step x0 x1 x2 51 h51 _ _ _ rfl rfl rfl inb_S256x7168_S256x128_0_6528 inb_S7168x1152_S128x1152_6528_0 inb_S56x1152_S1x1152_51_0
  clear h51
  have h53 := holds_step x0 x1 x2 52 h52 _ _ _ rfl rfl rfl inb_S256x7168_S256x128_0_6656 inb_S7168x1152_S128x1152_6656_0 inb_S56x1152_S1x1152_52_0
  clear h52
  have h54 := holds_step x0 x1 x2 53 h53 _ _ _ rfl rfl rfl inb_S256x7168_S256x128_0_6784 inb_S7168x1152_S128x1152_6784_0 inb_S56x1152_S1x1152_53_0
  clear h53
  have h55 := holds_step x0 x1 x2 54 h54 _ _ _ rfl rfl rfl inb_S256x7168_S256x128_0_6912 inb_S7168x1152_S128x1152_6912_0 inb_S56x1152_S1x1152_54_0
  clear h54
  have h56 := holds_step x0 x1 x2 55 h55 _ _ _ rfl rfl rfl inb_S256x7168_S256x128_0_7040 inb_S7168x1152_S128x1152_7040_0 inb_S56x1152_S1x1152_55_0
  clear h55
  rw [yval]
  congr 1
  refine (h56 r c).trans (Finset.sum_congr rfl fun g _ => ?_)
  rw [if_pos (by have := g.isLt; omega)]

end Cert.KernelIdeal.Hand

end
-- ==== Proof.KernelArrays.lean ====
/- What the kernel's three arrays hold after the run, each as one function of the arrays the region finds. -/
module

public import proofs.«01_k».proof.Proof.ScalesAt
public import proofs.«01_k».proof.Proof.CodesAt
public import proofs.«01_k».proof.Proof.StepsAt

@[expose] public section

set_option maxRecDepth 16384

noncomputable section

namespace Cert.KernelIdeal.Hand

open Cert.KernelIdeal Cert.KernelIdeal.Gen Cert.Hand Idealize.ShloMosaic Idealize.ShloMosaic.TcCoe Idealize.SL.Sem

variable (m : (ℓ : Loc nD τ sig) → Buf (Elt Ideal) ℓ) (c : Dev nD)

/-- A row of `x` as the region finds it. -/
def xrow (r : Fin 6144) : Fin 7168 → EReal := fun k => (V m c main_v2 : Vec Ideal S6144x7168 .bf16) (ix2 r k)

/-- A column of the weights as the region finds them. -/
def wcol (j : Fin 1152) : Fin 7168 → EReal := fun k => (V m c main_arg1 : Vec Ideal S7168x1152 .fp8e4m3) (ix2 k j)

/-- A column of the weights' scales as the region finds them. -/
def scol (j : Fin 1152) : Fin 56 → EReal := fun g => (V m c main_v1 : Vec Ideal S56x1152 .f32) (ix2 g j)

/-- An element of the bias as the region finds it. -/
def belt (j : Fin 1152) : EReal := (V m c main_v3 : Vec Ideal S1x1152 .f32) (ix2 0 j)

/-- Where each window's block stands at point `t`. -/
theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧
    win0_3.index t = ![0, 0] ∧ win0_4.index t = ![t.val, 0] ∧ win0_5.index t = ![t.val, 0] ∧ win0_6.index t = ![t.val, 0])

/-- The row of the array that is row `r` of point `t`'s block. -/
def rowAt (t : Fin cfg0.N) (r : Fin 256) : Fin 6144 :=
  ⟨t.val * 256 + r.val, by have h : t.val < 24 := t.isLt; omega⟩

theorem xblk (t : Fin cfg0.N) (r : Fin 256) (k : Fin 7168) : iblk m c 0 t (ix2 r k) = xrow m c (rowAt t r) k := by
  unfold xrow rowAt
  blk_ext [iblk, idx t]

theorem wblk (t : Fin cfg0.N) (k : Fin 7168) (j : Fin 1152) : iblk m c 1 t (ix2 k j) = wcol m c j k := by
  unfold wcol
  blk_ext [iblk, idx t]

theorem sblk (t : Fin cfg0.N) (g : Fin 56) (j : Fin 1152) : iblk m c 2 t (ix2 g j) = scol m c j g := by
  unfold scol
  blk_ext [iblk, idx t]

theorem bblk (t : Fin cfg0.N) (j : Fin 1152) : iblk m c 3 t (ix2 0 j) = belt m c j := by
  unfold belt
  blk_ext [iblk, idx t]

theorem emb4 (t : Fin cfg0.N) (r : Fin 256) (j : Fin 1152) : (win0_4.blk t).view.emb (ix2 r j) = ix2 (rowAt t r) j := by
  unfold rowAt
  blk_ext [idx t]

theorem emb5 (t : Fin cfg0.N) (r : Fin 256) (k : Fin 7168) : (win0_5.blk t).view.emb (ix2 r k) = ix2 (rowAt t r) k := by
  unfold rowAt
  blk_ext [idx t]

theorem emb6 (t : Fin cfg0.N) (r : Fin 256) (g : Fin 56) : (win0_6.blk t).view.emb (ix2 r g) = ix2 (rowAt t r) g := by
  unfold rowAt
  blk_ext [idx t]

theorem arr4 : (dats m 0 c).arrAt 4 cfg0.N =
    fun i => yval kscale kinv (xrow m c (i 0)) (wcol m c (i 1)) (scol m c (i 1)) (belt m c (i 1)) := by
  refine (dats m 0 c).arrAt_eq_of_covers 4 _ (by decide +kernel) fun t hf y => ?_
  blk_simp
  rw [after0_4]
  obtain ⟨r, j, rfl⟩ : ∃ (r : Fin 256) (j : Fin 1152), y = ix2 r j := ⟨y 0, y 1, eq_ix2 y⟩
  rw [emb4]
  refine (out4_apply (iblk m c 0 t) (iblk m c 1 t) (iblk m c 2 t) (iblk m c 3 t) r j).trans ?_
  simp only [xblk, wblk, sblk, bblk]
  rfl

theorem arr5 : (dats m 0 c).arrAt 5 cfg0.N = fun i => code kinv (xrow m c (i 0)) (i 1) := by
  refine (dats m 0 c).arrAt_eq_of_covers 5 _ (by decide +kernel) fun t hf y => ?_
  blk_simp
  rw [after0_5]
  obtain ⟨r, k, rfl⟩ : ∃ (r : Fin 256) (k : Fin 7168), y = ix2 r k := ⟨y 0, y 1, eq_ix2 y⟩
  rw [emb5]
  refine (out5_apply (iblk m c 0 t) (iblk m c 1 t) (iblk m c 2 t) (iblk m c 3 t) r k).trans ?_
  simp only [xblk]
  rfl

theorem arr6 : (dats m 0 c).arrAt 6 cfg0.N = fun i => kscale (amax (grp (xrow m c (i 0)) (i 1))) := by
  refine (dats m 0 c).arrAt_eq_of_covers 6 _ (by decide +kernel) fun t hf y => ?_
  blk_simp
  rw [after0_6]
  obtain ⟨r, g, rfl⟩ : ∃ (r : Fin 256) (g : Fin 56), y = ix2 r g := ⟨y 0, y 1, eq_ix2 y⟩
  rw [emb6]
  refine (out6_apply (iblk m c 0 t) (iblk m c 1 t) (iblk m c 2 t) (iblk m c 3 t) r g).trans ?_
  simp only [xblk]
  rfl

end Cert.KernelIdeal.Hand

end
-- ==== Proof.KernelEntry.lean ====
/- The arrays the region of the kernel finds, in terms of the arguments. -/
module

public import proofs.«01_k».proof.Proof.KernelArrays
public import Idealize.ShloMosaic.Lib.Pointwise

@[expose] public section

set_option maxRecDepth 16384

noncomputable section

namespace Cert.KernelIdeal.Hand

open Cert.KernelIdeal Cert.KernelIdeal.Gen Cert.Hand Idealize.ShloMosaic Idealize.ShloMosaic.TcCoe Idealize.SL.Sem

variable (m : (ℓ : Loc nD τ sig) → Buf (Elt Ideal) ℓ) (c : Dev nD)

/-- Row `r` of `x` is token `r % 2048` of batch `r / 2048`. -/
theorem xrow_eq (r : Fin 6144) : xrow m c r =
    fun k => (m ((c : Thread nD τ).loc main_arg0) : Vec Ideal S3x2048x7168 .bf16) (ix3 ⟨r.val / 2048, by omega⟩ ⟨r.val % 2048, by omega⟩ k) := by
  funext k
  unfold xrow
  entry_read
  pointwise

theorem wcol_eq (j : Fin 1152) : wcol m c j =
    fun k => (m ((c : Thread nD τ).loc main_arg1) : Vec Ideal S7168x1152 .fp8e4m3) (ix2 k j) := by
  funext k
  unfold wcol
  entry_read
  rfl

/-- Column `j` is scaled by its block of 128 columns' scale. -/
theorem scol_eq (j : Fin 1152) : scol m c j =
    fun g => (m ((c : Thread nD τ).loc main_arg2) : Vec Ideal S56x9 .f32) (ix2 g ⟨j.val / 128, by omega⟩) := by
  funext g
  unfold scol
  entry_read
  pointwise

theorem belt_eq (j : Fin 1152) : belt m c j = (m ((c : Thread nD τ).loc main_arg3) : Vec Ideal S1152 .f32) (ix1 j) := by
  unfold belt
  entry_read
  pointwise

end Cert.KernelIdeal.Hand

end
-- ==== Proof.RefOps.lean ====
/- The reference's body, operation by operation, read at an index over the extended reals. Each lemma is stated for arbitrary
   vectors. -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Hand Idealize.ShloMosaic Idealize.SL.Sem

/-- `x` as f32, cut into groups. -/
theorem pay2_apply (v : Vec Ideal S6144x7168 .bf16) (r : Fin 6144) (g : Fin 56) (l : Fin 128) :
    k0_pay2 v (ix3 r g l) = v (ix2 r (at128 g l)) := by
  pointwise [k0_pay2]
  rfl

/-- The groups of codes laid out as a row again. -/
theorem merge_apply (u : FVec Ideal S6144x56x128 .fp8e4m3) (r : Fin 6144) (k : Fin 7168) :
    shapeCast S6144x7168 u shapeCasts_S6144x56x128_S6144x7168 (ix2 r k) = u (ix3 r (grpOf k) ⟨k.val % 128, by omega⟩) := by
  pointwise
  rfl

/-- The largest magnitude of every group. -/
def refMax (u : FVec Ideal S6144x56x128 .f32) : FVec Ideal S6144x56 .f32 :=
  multiReduction .maximumf [2] S6144x56 (absf u) 0xFF800000#32 reduces_S6144x56x128_S6144x56 (.inl rfl) rfl

theorem refMax_apply (u : FVec Ideal S6144x56x128 .f32) (r : Fin 6144) (g : Fin 56) :
    refMax u (ix2 r g) = amax fun l => u (ix3 r g l) := by
  pointwise [refMax]
  rfl

/-- The exponents, from the largest magnitudes. -/
def refExp (a : FVec Ideal S6144x56 .f32) : FVec Ideal S6144x56 .f32 :=
  select (cmpf .oeq a (broadcast S6144x56 (Scalar.ofBits .f32 0x00000000#32))) (broadcast S6144x56 (Scalar.ofBits .f32 0x00000000#32))
    (addf (floor (divf (log (mulf a (broadcast S6144x56 (Scalar.ofBits .f32 0x3B124925#32))))
      (log (broadcast S6144x56 (Scalar.ofBits .f32 0x40000000#32))))) (broadcast S6144x56 (Scalar.ofBits .f32 0x3F800000#32)))

theorem refExp_apply (a : FVec Ideal S6144x56 .f32) (r : Fin 6144) (g : Fin 56) :
    refExp a (ix2 r g) = rexp (a (ix2 r g)) := by
  pointwise [refExp]
  rfl

theorem pay3_eq (v : Vec Ideal S6144x7168 .bf16) : k0_pay3 v = refExp (refMax (k0_pay2 v)) := rfl

/-- The codes, from the groups and their exponents. -/
def refCodes (u : FVec Ideal S6144x56x128 .f32) (e : FVec Ideal S6144x56 .f32) : FVec Ideal S6144x56x128 .fp8e4m3 :=
  truncf .fp8e4m3 (minimumf (broadcast S6144x56x128 (Scalar.ofBits .f32 0x43E00000#32))
    (maximumf (broadcast S6144x56x128 (Scalar.ofBits .f32 0xC3E00000#32)) (mulf u (broadcastTo S6144x56x128
      (shapeCast S6144x56x1 (exp2 (subf (broadcast S6144x56 (Scalar.ofBits .f32 0x00000000#32)) e)) shapeCasts_S6144x56_S6144x56x1)
      broadcasts_S6144x56x1_S6144x56x128)))) bitsLt_fp8e4m3_f32

theorem refCodes_apply (u : FVec Ideal S6144x56x128 .f32) (e : FVec Ideal S6144x56 .f32) (r : Fin 6144) (g : Fin 56) (l : Fin 128) :
    refCodes u e (ix3 r g l) = clip (u (ix3 r g l) * Ideal.exp2 (0 - e (ix2 r g))) := by
  pointwise [refCodes]
  rfl

theorem pay5_eq (v : Vec Ideal S6144x7168 .bf16) : k0_pay5 v = refCodes (k0_pay2 v) (k0_pay3 v) := rfl

/-- The product of every group of codes with the group's weights. -/
def refDot (q : FVec Ideal S6144x56x128 .fp8e4m3) (w : Vec Ideal S7168x1152 .fp8e4m3) : FVec Ideal S56x6144x1152 .f32 :=
  matmul (φ₂ := .fp8e4m3) dot_S6144x56x128_S56x128x1152_S56x6144x1152_2_1_0_2_1_0 none q
    (shapeCast S56x128x1152 (w : FVec Ideal S7168x1152 .fp8e4m3) shapeCasts_S7168x1152_S56x128x1152) (constant S56x6144x1152 .f32 0x00000000#32)

theorem refDot_apply (q : FVec Ideal S6144x56x128 .fp8e4m3) (w : Vec Ideal S7168x1152 .fp8e4m3) (g : Fin 56) (r : Fin 6144) (c : Fin 1152) :
    refDot q w (ix3 g r c) = ∑ l, q (ix3 r g l) * w (ix2 (at128 g l) c) := by
  pointwise [refDot]
  rfl

theorem pay7_eq (v : Vec Ideal S6144x7168 .bf16) (w : Vec Ideal S7168x1152 .fp8e4m3) : k0_pay7 v w = refDot (k0_pay5 v) w := rfl

/-- The scales repeated along every column, group by group. -/
def refSpread (s : FVec Ideal S6144x56 .f32) : FVec Ideal S56x6144x1152 .f32 :=
  broadcastTo S56x6144x1152 (shapeCast S56x6144x1 (transpose S56x6144 [1, 0] s transposes_S6144x56_p1_0_S56x6144)
    shapeCasts_S56x6144_S56x6144x1) broadcasts_S56x6144x1_S56x6144x1152

theorem refSpread_apply (s : FVec Ideal S6144x56 .f32) (g : Fin 56) (r : Fin 6144) (c : Fin 1152) :
    refSpread s (ix3 g r c) = s (ix2 r g) := by
  pointwise [refSpread]

theorem pay8_eq (v : Vec Ideal S6144x7168 .bf16) : k0_pay8 v = refSpread (k0_pay4 v) := rfl

/-- `y` from the products, the repeated scales, the weights' scales and the bias. -/
theorem pay1_apply (d s : FVec Ideal S56x6144x1152 .f32) (sw : Vec Ideal S56x1152 .f32)
    (b : Vec Ideal S1x1152 .f32) (r : Fin 6144) (c : Fin 1152) :
    k0_pay1 d s sw b (ix2 r c) = ∑ g, d (ix3 g r c) * s (ix3 g r c) * sw (ix2 g c) + b (ix2 0 c) := by
  pointwise [k0_pay1]

theorem exp2_apply (e : FVec Ideal S6144x56 .f32) (r : Fin 6144) (g : Fin 56) : exp2 e (ix2 r g) = Ideal.exp2 (e (ix2 r g)) := rfl

theorem pay4_eq (v : Vec Ideal S6144x7168 .bf16) : k0_pay4 v = exp2 (k0_pay3 v) := rfl

theorem pay6_eq (v : Vec Ideal S6144x7168 .bf16) : k0_pay6 v = shapeCast S6144x7168 (k0_pay5 v) shapeCasts_S6144x56x128_S6144x7168 := rfl

end Cert.ReferenceIdeal.Hand

end
-- ==== Proof.RefBlock.lean ====
/- What the reference's body computes, read at an index: the scales, the codes and `y` as the row functions of `Spec`. -/
module

public import proofs.«01_k».proof.Proof.RefOps

@[expose] public section

set_option maxRecDepth 16384

noncomputable section

namespace Cert.ReferenceIdeal.Hand

open Cert.ReferenceIdeal Cert.ReferenceIdeal.Gen Cert.Hand Idealize.ShloMosaic Idealize.SL.Sem

variable (v : Vec Ideal S6144x7168 .bf16) (w : Vec Ideal S7168x1152 .fp8e4m3) (sw : Vec Ideal S56x1152 .f32) (b : Vec Ideal S1x1152 .f32)

theorem exp_apply (r : Fin 6144) (g : Fin 56) : k0_pay3 v (ix2 r g) = rexp (amax (grp (fun k => v (ix2 r k)) g)) := by
  rw [pay3_eq, refExp_apply, refMax_apply]
  simp only [pay2_apply]
  rfl

theorem scale_apply (r : Fin 6144) (g : Fin 56) : k0_pay4 v (ix2 r g) = rscale (amax (grp (fun k => v (ix2 r k)) g)) := by
  rw [pay4_eq, exp2_apply, exp_apply]
  rfl

theorem codes3_apply (r : Fin 6144) (g : Fin 56) (l : Fin 128) :
    k0_pay5 v (ix3 r g l) = clip (v (ix2 r (at128 g l)) * rinv (amax (grp (fun k => v (ix2 r k)) g))) := by
  rw [pay5_eq, refCodes_apply, exp_apply, pay2_apply]
  rfl

theorem codes_apply (r : Fin 6144) (k : Fin 7168) : k0_pay6 v (ix2 r k) = code rinv (fun k => v (ix2 r k)) k := by
  rw [pay6_eq, merge_apply, codes3_apply]
  have h : at128 (grpOf k) ⟨k.val % 128, by omega⟩ = k := Fin.ext (Nat.div_add_mod' k.val 128)
  rw [h]
  rfl

theorem y_apply (r : Fin 6144) (c : Fin 1152) : k0_pay1 (k0_pay7 v w) (k0_pay8 v) sw b (ix2 r c) =
    yval rscale rinv (fun k => v (ix2 r k)) (fun k => w (ix2 k c)) (fun g => sw (ix2 g c)) (b (ix2 0 c)) := by
  rw [pay1_apply, yval]
  congr 1
  refine Finset.sum_congr rfl fun g _ => ?_
  rw [pay8_eq, refSpread_apply, scale_apply, pay7_eq, refDot_apply]
  simp only [codes3_apply]
  rfl

end Cert.ReferenceIdeal.Hand

end
-- ==== Proof.RefArrays.lean ====
/- What the reference's three arrays hold after the run, each as one function of the arrays the region finds. -/
module

public import proofs.«01_k».proof.Proof.RefBlock
public import Idealize.ShloMosaic.Lib.Pipeline.ValueKit

@[expose] public section

set_option maxRecDepth 16384

noncomputable section

namespace Cert.ReferenceIdeal.Hand

open Cert.ReferenceIdeal Cert.ReferenceIdeal.Gen Cert.Hand Idealize.ShloMosaic Idealize.ShloMosaic.TcCoe Idealize.SL.Sem

variable (m : (ℓ : Loc nD τ sig) → Buf (Elt Ideal) ℓ) (c : Dev nD)

/-- A row of `x` as the region finds it. -/
def xrow (r : Fin 6144) : Fin 7168 → EReal := fun k => (V m c main_v0 : Vec Ideal S6144x7168 .bf16) (ix2 r k)

/-- A column of the weights as the region finds them. -/
def wcol (j : Fin 1152) : Fin 7168 → EReal := fun k => (V m c main_arg1 : Vec Ideal S7168x1152 .fp8e4m3) (ix2 k j)

/-- A column of the weights' scales as the region finds them. -/
def scol (j : Fin 1152) : Fin 56 → EReal := fun g => (V m c main_v2 : Vec Ideal S56x1152 .f32) (ix2 g j)

/-- An element of the bias as the region finds it. -/
def belt (j : Fin 1152) : EReal := (V m c main_v3 : Vec Ideal S1x1152 .f32) (ix2 0 j)

/-- Every window's block stands at the array's origin. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0])

/-- Each input's block is its whole array. -/
theorem xblk (t : Fin cfg0.N) (r : Fin 6144) (k : Fin 7168) : iblk m c 0 t (ix2 r k) = xrow m c r k := by
  unfold xrow
  blk_ext [iblk, idx t]

theorem wblk (t : Fin cfg0.N) (k : Fin 7168) (j : Fin 1152) : iblk m c 1 t (ix2 k j) = wcol m c j k := by
  unfold wcol
  blk_ext [iblk, idx t]

theorem sblk (t : Fin cfg0.N) (g : Fin 56) (j : Fin 1152) : iblk m c 2 t (ix2 g j) = scol m c j g := by
  unfold scol
  blk_ext [iblk, idx t]

theorem bblk (t : Fin cfg0.N) (j : Fin 1152) : iblk m c 3 t (ix2 0 j) = belt m c j := by
  unfold belt
  blk_ext [iblk, idx t]

theorem emb4 (t : Fin cfg0.N) (r : Fin 6144) (j : Fin 1152) : (win0_4.blk t).view.emb (ix2 r j) = ix2 r j := by
  blk_ext [idx t]

theorem emb5 (t : Fin cfg0.N) (r : Fin 6144) (k : Fin 7168) : (win0_5.blk t).view.emb (ix2 r k) = ix2 r k := by
  blk_ext [idx t]

theorem emb6 (t : Fin cfg0.N) (r : Fin 6144) (g : Fin 56) : (win0_6.blk t).view.emb (ix2 r g) = ix2 r g := by
  blk_ext [idx t]

section
variable (x0 : Vec Ideal S6144x7168 .bf16) (x1 : Vec Ideal S7168x1152 .fp8e4m3) (x2 : Vec Ideal S56x1152 .f32) (x3 : Vec Ideal S1x1152 .f32)

theorem out4_apply (r : Fin 6144) (j : Fin 1152) : out0_4 x0 x1 x2 x3 (ix2 r j) =
    yval rscale rinv (fun k => x0 (ix2 r k)) (fun k => x1 (ix2 k j)) (fun g => x2 (ix2 g j)) (x3 (ix2 0 j)) := by
  rw [out0_4, View.canon_unit_zero (by funext a; fin_cases a <;> rfl), View.ld_unit_zero (by funext a; fin_cases a <;> rfl), View.ld_unit_zero (by funext a; fin_cases a <;> rfl), View.ld_unit_zero (by funext a; fin_cases a <;> rfl),
    View.ld_unit_zero (by funext a; fin_cases a <;> rfl), y_apply]

theorem out5_apply (r : Fin 6144) (k : Fin 7168) : out0_5 x0 x1 x2 x3 (ix2 r k) = code rinv (fun k => x0 (ix2 r k)) k := by
  rw [out0_5, View.canon_unit_zero (by funext a; fin_cases a <;> rfl), View.ld_unit_zero (by funext a; fin_cases a <;> rfl), codes_apply]

theorem out6_apply (r : Fin 6144) (g : Fin 56) : out0_6 x0 x1 x2 x3 (ix2 r g) = rscale (amax (grp (fun k => x0 (ix2 r k)) g)) := by
  rw [out0_6, View.canon_unit_zero (by funext a; fin_cases a <;> rfl), View.ld_unit_zero (by funext a; fin_cases a <;> rfl), scale_apply]

end

theorem arr4 : (dats m 0 c).arrAt 4 cfg0.N =
    fun i => yval rscale rinv (xrow m c (i 0)) (wcol m c (i 1)) (scol m c (i 1)) (belt m c (i 1)) := by
  refine (dats m 0 c).arrAt_eq_of_covers 4 _ (by decide +kernel) fun t hf y => ?_
  blk_simp
  rw [after0_4]
  obtain ⟨r, j, rfl⟩ : ∃ (r : Fin 6144) (j : Fin 1152), y = ix2 r j := ⟨y 0, y 1, eq_ix2 y⟩
  rw [emb4]
  refine (out4_apply (iblk m c 0 t) (iblk m c 1 t) (iblk m c 2 t) (iblk m c 3 t) r j).trans ?_
  simp only [xblk, wblk, sblk, bblk]
  rfl

theorem arr5 : (dats m 0 c).arrAt 5 cfg0.N =
    fun i => code rinv (xrow m c (i 0)) (i 1) := by
  refine (dats m 0 c).arrAt_eq_of_covers 5 _ (by decide +kernel) fun t hf y => ?_
  blk_simp
  rw [after0_5]
  obtain ⟨r, k, rfl⟩ : ∃ (r : Fin 6144) (k : Fin 7168), y = ix2 r k := ⟨y 0, y 1, eq_ix2 y⟩
  rw [emb5]
  refine (out5_apply (iblk m c 0 t) (iblk m c 1 t) (iblk m c 2 t) (iblk m c 3 t) r k).trans ?_
  simp only [xblk]
  rfl

theorem arr6 : (dats m 0 c).arrAt 6 cfg0.N =
    fun i => rscale (amax (grp (xrow m c (i 0)) (i 1))) := by
  refine (dats m 0 c).arrAt_eq_of_covers 6 _ (by decide +kernel) fun t hf y => ?_
  blk_simp
  rw [after0_6]
  obtain ⟨r, g, rfl⟩ : ∃ (r : Fin 6144) (g : Fin 56), y = ix2 r g := ⟨y 0, y 1, eq_ix2 y⟩
  rw [emb6]
  refine (out6_apply (iblk m c 0 t) (iblk m c 1 t) (iblk m c 2 t) (iblk m c 3 t) r g).trans ?_
  simp only [xblk]
  rfl

end Cert.ReferenceIdeal.Hand

end
-- ==== Proof.RefEntry.lean ====
/- The arrays the region of the reference finds, in terms of the arguments. -/
module

public import proofs.«01_k».proof.Proof.RefArrays
public import Idealize.ShloMosaic.Lib.Pointwise

@[expose] public section

set_option maxRecDepth 16384

noncomputable section

namespace Cert.ReferenceIdeal.Hand

open Cert.ReferenceIdeal Cert.ReferenceIdeal.Gen Cert.Hand Idealize.ShloMosaic Idealize.ShloMosaic.TcCoe Idealize.SL.Sem

variable (m : (ℓ : Loc nD τ sig) → Buf (Elt Ideal) ℓ) (c : Dev nD)

/-- Row `r` of `x` is token `r % 2048` of batch `r / 2048`. -/
theorem xrow_eq (r : Fin 6144) : xrow m c r =
    fun k => (m ((c : Thread nD τ).loc main_arg0) : Vec Ideal S3x2048x7168 .bf16) (ix3 ⟨r.val / 2048, by omega⟩ ⟨r.val % 2048, by omega⟩ k) := by
  funext k
  unfold xrow
  entry_read
  pointwise

theorem wcol_eq (j : Fin 1152) : wcol m c j =
    fun k => (m ((c : Thread nD τ).loc main_arg1) : Vec Ideal S7168x1152 .fp8e4m3) (ix2 k j) := by
  funext k
  unfold wcol
  entry_read
  rfl

/-- Column `j` is scaled by its block of 128 columns' scale. -/
theorem scol_eq (j : Fin 1152) : scol m c j =
    fun g => (m ((c : Thread nD τ).loc main_arg2) : Vec Ideal S56x9 .f32) (ix2 g ⟨j.val / 128, by omega⟩) := by
  funext g
  unfold scol
  entry_read
  pointwise

theorem belt_eq (j : Fin 1152) : belt m c j = (m ((c : Thread nD τ).loc main_arg3) : Vec Ideal S1152 .f32) (ix1 j) := by
  unfold belt
  entry_read
  pointwise

end Cert.ReferenceIdeal.Hand

end
-- ==== Proof.PreAt.lean ====
/- The precondition read at one group of one token. -/
module

public import proofs.«01_k».proof.Proof.Gen.Pre_in_range
public import proofs.«01_k».proof.Proof.Spec
public import Idealize.ShloMosaic.Lib.Pointwise

@[expose] public section

set_option maxRecDepth 16384

noncomputable section

namespace Cert.Pre_in_range.Hand

open Cert.Pre_in_range Cert.Pre_in_range.Gen Cert.Hand Idealize.ShloMosaic

/-- The largest magnitudes of all groups. -/
def hostMax (x : FVec Ideal S3x2048x7168 .bf16) : FVec Ideal S3x2048x56 .f32 :=
  Host.reduce FloatOps.maximumf (shapeCast S3x2048x56x128 (Host.absf (extf .f32 x bitsLt_bf16_f32)) Facts.shapeCasts_S3x2048x7168_S3x2048x56x128)
    (constant S_ .f32 0xFF800000#32) Facts.reducesTo_S3x2048x56x128_S3x2048x56_d3 Facts.h_S_

theorem hostMax_apply (x : FVec Ideal S3x2048x7168 .bf16) (b : Fin 3) (s : Fin 2048) (g : Fin 56) :
    hostMax x (ix3 b s g) = amax fun l => x (ix3 b s (at128 g l)) := by
  pointwise [hostMax]
  rfl

/-- The comparison, from the largest magnitudes. -/
def test (a : FVec Ideal S3x2048x56 .f32) : IVec S3x2048x56 1 :=
  ori (cmpf .oeq a (broadcastInDim S3x2048x56 ![] Facts.bcast_S_S3x2048x56 (constant S_ .f32 0x00000000#32)))
    (andi (cmpf .oge a (broadcastInDim S3x2048x56 ![] Facts.bcast_S_S3x2048x56 (constant S_ .f32 0x04E00000#32)))
      (cmpf .ole a (broadcastInDim S3x2048x56 ![] Facts.bcast_S_S3x2048x56 (constant S_ .f32 0x7F7F0000#32))))

theorem test_apply (a : FVec Ideal S3x2048x56 .f32) (b : Fin 3) (s : Fin 2048) (g : Fin 56) (h : test a (ix3 b s g) = 1#1) :
    InRange (a (ix3 b s g)) := by
  pointwise [test] at h
  by_cases h0 : a (ix3 b s g) = 0
  · exact .inl h0
  · by_cases h1 : Ideal.ofBits .f32 0x04E00000#32 ≤ a (ix3 b s g)
    · by_cases h2 : a (ix3 b s g) ≤ Ideal.ofBits .f32 0x7F7F0000#32
      · exact .inr ⟨h1, h2⟩
      · simp [h0, h1, h2, IntOp.ori, IntOp.andi] at h
    · simp [h0, h1, IntOp.ori, IntOp.andi] at h

theorem in_range (x : FVec Ideal S3x2048x7168 .bf16) (w s₀ b₀) (h : fn (F := Ideal) x w s₀ b₀ = fun _ => 1#1)
    (b : Fin 3) (s : Fin 2048) (g : Fin 56) : InRange (amax fun l => x (ix3 b s (at128 g l))) := by
  rw [← hostMax_apply]
  exact test_apply (hostMax x) b s g (congrFun h (ix3 b s g))

end Cert.Pre_in_range.Hand

end
-- ==== Proof.Equation.lean ====
/- The equation: from memories that agree on the arguments, with every group in range, the kernel's three arrays are
   the reference's. -/
module

public import proofs.«01_k».proof.Defs
public import proofs.«01_k».proof.Proof.KernelEntry
public import proofs.«01_k».proof.Proof.RefEntry
public import proofs.«01_k».proof.Proof.PreAt

@[expose] public section

set_option maxRecDepth 16384

noncomputable section

namespace Cert.Hand

open Idealize.ShloMosaic Idealize.ShloMosaic.TcCoe Idealize.SL.Sem

/-- The reference's memory agrees with the kernel's on the four arguments of core `c`. -/
def Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c : Thread ReferenceIdeal.nD ReferenceIdeal.τ).loc ReferenceIdeal.main_arg0) = m ((c : Thread KernelIdeal.nD KernelIdeal.τ).loc KernelIdeal.main_arg0)
  ∧ m' ((c : Thread ReferenceIdeal.nD ReferenceIdeal.τ).loc ReferenceIdeal.main_arg1) = m ((c : Thread KernelIdeal.nD KernelIdeal.τ).loc KernelIdeal.main_arg1)
  ∧ m' ((c : Thread ReferenceIdeal.nD ReferenceIdeal.τ).loc ReferenceIdeal.main_arg2) = m ((c : Thread KernelIdeal.nD KernelIdeal.τ).loc KernelIdeal.main_arg2)
  ∧ m' ((c : Thread ReferenceIdeal.nD ReferenceIdeal.τ).loc ReferenceIdeal.main_arg3) = m ((c : Thread KernelIdeal.nD KernelIdeal.τ).loc KernelIdeal.main_arg3)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ) (c : Dev KernelIdeal.nD)

/-- The precondition gives every row of `x` in range. -/
theorem row_in_range (hp : Pre_KernelIdeal_in_range m) (r : Fin 6144) : RowInRange (KernelIdeal.Hand.xrow m c r) := by
  intro g
  rw [KernelIdeal.Hand.xrow_eq]
  exact Pre_in_range.Hand.in_range _ _ _ _ (hp c) _ _ g

variable (h : Agree m m' c)
include h

theorem xrow_agree (r : Fin 6144) : ReferenceIdeal.Hand.xrow m' c r = KernelIdeal.Hand.xrow m c r := by
  rw [ReferenceIdeal.Hand.xrow_eq, KernelIdeal.Hand.xrow_eq, h.1]

theorem wcol_agree (j : Fin 1152) : ReferenceIdeal.Hand.wcol m' c j = KernelIdeal.Hand.wcol m c j := by
  rw [ReferenceIdeal.Hand.wcol_eq, KernelIdeal.Hand.wcol_eq, h.2.1]

theorem scol_agree (j : Fin 1152) : ReferenceIdeal.Hand.scol m' c j = KernelIdeal.Hand.scol m c j := by
  rw [ReferenceIdeal.Hand.scol_eq, KernelIdeal.Hand.scol_eq, h.2.2.1]

theorem belt_agree (j : Fin 1152) : ReferenceIdeal.Hand.belt m' c j = KernelIdeal.Hand.belt m c j := by
  rw [ReferenceIdeal.Hand.belt_eq, KernelIdeal.Hand.belt_eq, h.2.2.2]

variable (hp : Pre_KernelIdeal_in_range m)
include hp

/-- `y` at an index. -/
theorem eq4_at (r : Fin 6144) (j : Fin 1152) :
    yval rscale rinv (ReferenceIdeal.Hand.xrow m' c r) (ReferenceIdeal.Hand.wcol m' c j) (ReferenceIdeal.Hand.scol m' c j) (ReferenceIdeal.Hand.belt m' c j) =
    yval kscale kinv (KernelIdeal.Hand.xrow m c r) (KernelIdeal.Hand.wcol m c j) (KernelIdeal.Hand.scol m c j) (KernelIdeal.Hand.belt m c j) := by
  rw [xrow_agree m m' c h, wcol_agree m m' c h, scol_agree m m' c h, belt_agree m m' c h]
  exact (yval_congr (row_in_range m c hp _) _ _ _).symm

/-- The codes at an index. -/
theorem eq5_at (r : Fin 6144) (k : Fin 7168) :
    code rinv (ReferenceIdeal.Hand.xrow m' c r) k = code kinv (KernelIdeal.Hand.xrow m c r) k := by
  rw [xrow_agree m m' c h]
  exact (code_congr (row_in_range m c hp _) _).symm

/-- The scales at an index. -/
theorem eq6_at (r : Fin 6144) (g : Fin 56) :
    rscale (amax (grp (ReferenceIdeal.Hand.xrow m' c r) g)) = kscale (amax (grp (KernelIdeal.Hand.xrow m c r) g)) := by
  rw [xrow_agree m m' c h]
  exact (scale_congr (row_in_range m c hp _) _).symm

/-- `y`. -/
theorem eq4 : (ReferenceIdeal.Gen.dats m' 0 c).arrAt 4 ReferenceIdeal.cfg0.N = (KernelIdeal.Gen.dats m 0 c).arrAt 4 KernelIdeal.cfg0.N := by
  rw [ReferenceIdeal.Hand.arr4, KernelIdeal.Hand.arr4]
  exact funext fun i => eq4_at m m' c h hp (i 0) (i 1)

/-- The codes. -/
theorem eq5 : (ReferenceIdeal.Gen.dats m' 0 c).arrAt 5 ReferenceIdeal.cfg0.N = (KernelIdeal.Gen.dats m 0 c).arrAt 5 KernelIdeal.cfg0.N := by
  rw [ReferenceIdeal.Hand.arr5, KernelIdeal.Hand.arr5]
  exact funext fun i => eq5_at m m' c h hp (i 0) (i 1)

/-- The scales. -/
theorem eq6 : (ReferenceIdeal.Gen.dats m' 0 c).arrAt 6 ReferenceIdeal.cfg0.N = (KernelIdeal.Gen.dats m 0 c).arrAt 6 KernelIdeal.cfg0.N := by
  rw [ReferenceIdeal.Hand.arr6, KernelIdeal.Hand.arr6]
  exact funext fun i => eq6_at m m' c h hp (i 0) (i 1)

end Cert.Hand

end
-- ==== Proof.lean ====
/- The certificate: the frames of the three programs and the equality of the kernel's three arrays with the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Frame
public import proofs.«01_k».proof.Proof.Gen.Pre_in_range
public import proofs.«01_k».proof.Proof.RefRun
public import proofs.«01_k».proof.Proof.Equation

@[expose] public section

open Idealize.ShloMosaic Idealize.ShloMosaic.TcCoe Idealize.SL.Sem

theorem Cert.Proof.algebraic : Cert.algebraic_KernelIdeal_ReferenceIdeal_pre_in_range := by
  intro m g m' g' hp h
  refine ⟨_, _, _, Cert.KernelIdeal.Value.run_blocks m g, (θ_run _ _ _).mono (fun r q c => ?_) (Cert.ReferenceIdeal.Hand.run_blocks m' g')⟩
  obtain ⟨h4, h5, h6, k0, k1, k2, k3⟩ := q c
  exact ⟨h4.trans (Cert.Hand.eq4 m m' c (h c) hp), h5.trans (Cert.Hand.eq5 m m' c (h c) hp),
    h6.trans (Cert.Hand.eq6 m m' c (h c) hp), k0, k1, k2, k3⟩

theorem Cert.Proof.claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, Cert.Proof.algebraic⟩
